-- ==== Defs.lean ====
def Pre_MergeMlp (m : (ℓ : Loc Cert.MergeMlp.nD Cert.MergeMlp.τ Cert.MergeMlp.sig) → Buf (Elt Bits) ℓ) : Prop :=
  True

def Pre_MergeMlpIdeal (m : (ℓ : Loc Cert.MergeMlpIdeal.nD Cert.MergeMlpIdeal.τ Cert.MergeMlpIdeal.sig) → Buf (Elt Ideal) ℓ) : Prop :=
  True

def Pre_MergeMlpRefIdeal (m : (ℓ : Loc Cert.MergeMlpRefIdeal.nD Cert.MergeMlpRefIdeal.τ Cert.MergeMlpRefIdeal.sig) → Buf (Elt Ideal) ℓ) : Prop :=
  True

def Pre_MergeMlpS (m : (ℓ : Loc Cert.MergeMlpS.nD Cert.MergeMlpS.τ Cert.MergeMlpS.sig) → Buf (Elt Bits) ℓ) : Prop :=
  True

def Pre_MergeMlpSIdeal (m : (ℓ : Loc Cert.MergeMlpSIdeal.nD Cert.MergeMlpSIdeal.τ Cert.MergeMlpSIdeal.sig) → Buf (Elt Ideal) ℓ) : Prop :=
  True

def Pre_MergeMlpSRefIdeal (m : (ℓ : Loc Cert.MergeMlpSRefIdeal.nD Cert.MergeMlpSRefIdeal.τ Cert.MergeMlpSRefIdeal.sig) → Buf (Elt Ideal) ℓ) : Prop :=
  True

def Pre_DeltaStep (m : (ℓ : Loc Cert.DeltaStep.nD Cert.DeltaStep.τ Cert.DeltaStep.sig) → Buf (Elt Bits) ℓ) : Prop :=
  True

def Pre_DeltaStepIdeal (m : (ℓ : Loc Cert.DeltaStepIdeal.nD Cert.DeltaStepIdeal.τ Cert.DeltaStepIdeal.sig) → Buf (Elt Ideal) ℓ) : Prop :=
  True

def Pre_DeltaStepRefIdeal (m : (ℓ : Loc Cert.DeltaStepRefIdeal.nD Cert.DeltaStepRefIdeal.τ Cert.DeltaStepRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_MergeMlp [hMergeMlp : Cert.MergeMlp.Facts] : Prop :=
  ∀ (m : (ℓ : Loc Cert.MergeMlp.nD Cert.MergeMlp.τ Cert.MergeMlp.sig) → Buf (Elt Bits) ℓ) (g : Dev Cert.MergeMlp.nD → PrngReg), Pre_MergeMlp m →
    θ_run (Cert.MergeMlp.defs (F := Bits)) (onTc (τ := Cert.MergeMlp.τ) (Cert.MergeMlp.main (F := Bits))) ⟨m, fun _ => 0, g⟩ (fun r => (∀ c : Dev Cert.MergeMlp.nD,
      r.2.mem ((c.tc : Thread Cert.MergeMlp.nD Cert.MergeMlp.τ).loc Cert.MergeMlp.main_arg0) = m ((c.tc : Thread Cert.MergeMlp.nD Cert.MergeMlp.τ).loc Cert.MergeMlp.main_arg0)
      ∧ r.2.mem ((c.tc : Thread Cert.MergeMlp.nD Cert.MergeMlp.τ).loc Cert.MergeMlp.main_arg1) = m ((c.tc : Thread Cert.MergeMlp.nD Cert.MergeMlp.τ).loc Cert.MergeMlp.main_arg1)
      ∧ r.2.mem ((c.tc : Thread Cert.MergeMlp.nD Cert.MergeMlp.τ).loc Cert.MergeMlp.main_arg2) = m ((c.tc : Thread Cert.MergeMlp.nD Cert.MergeMlp.τ).loc Cert.MergeMlp.main_arg2)
      ∧ r.2.mem ((c.tc : Thread Cert.MergeMlp.nD Cert.MergeMlp.τ).loc Cert.MergeMlp.main_arg3) = m ((c.tc : Thread Cert.MergeMlp.nD Cert.MergeMlp.τ).loc Cert.MergeMlp.main_arg3)
      ∧ r.2.mem ((c.tc : Thread Cert.MergeMlp.nD Cert.MergeMlp.τ).loc Cert.MergeMlp.main_arg4) = m ((c.tc : Thread Cert.MergeMlp.nD Cert.MergeMlp.τ).loc Cert.MergeMlp.main_arg4)
      ∧ r.2.mem ((c.tc : Thread Cert.MergeMlp.nD Cert.MergeMlp.τ).loc Cert.MergeMlp.main_arg5) = m ((c.tc : Thread Cert.MergeMlp.nD Cert.MergeMlp.τ).loc Cert.MergeMlp.main_arg5)
      ∧ r.2.mem ((c.tc : Thread Cert.MergeMlp.nD Cert.MergeMlp.τ).loc Cert.MergeMlp.main_arg6) = m ((c.tc : Thread Cert.MergeMlp.nD Cert.MergeMlp.τ).loc Cert.MergeMlp.main_arg6)
      ∧ r.2.mem ((c.tc : Thread Cert.MergeMlp.nD Cert.MergeMlp.τ).loc Cert.MergeMlp.main_arg7) = m ((c.tc : Thread Cert.MergeMlp.nD Cert.MergeMlp.τ).loc Cert.MergeMlp.main_arg7)
      ∧ r.2.mem ((c.tc : Thread Cert.MergeMlp.nD Cert.MergeMlp.τ).loc Cert.MergeMlp.main_arg8) = m ((c.tc : Thread Cert.MergeMlp.nD Cert.MergeMlp.τ).loc Cert.MergeMlp.main_arg8)
      ∧ r.2.mem ((c.tc : Thread Cert.MergeMlp.nD Cert.MergeMlp.τ).loc Cert.MergeMlp.main_arg9) = m ((c.tc : Thread Cert.MergeMlp.nD Cert.MergeMlp.τ).loc Cert.MergeMlp.main_arg9)
      ∧ r.2.mem ((c.tc : Thread Cert.MergeMlp.nD Cert.MergeMlp.τ).loc Cert.MergeMlp.main_arg10) = m ((c.tc : Thread Cert.MergeMlp.nD Cert.MergeMlp.τ).loc Cert.MergeMlp.main_arg10)
      ∧ r.2.mem ((c.tc : Thread Cert.MergeMlp.nD Cert.MergeMlp.τ).loc Cert.MergeMlp.main_arg11) = m ((c.tc : Thread Cert.MergeMlp.nD Cert.MergeMlp.τ).loc Cert.MergeMlp.main_arg11))
      ∧ r.2.sem = fun _ => 0)

def quiescent_MergeMlpIdeal [hMergeMlpIdeal : Cert.MergeMlpIdeal.Facts] : Prop :=
  ∀ (m : (ℓ : Loc Cert.MergeMlpIdeal.nD Cert.MergeMlpIdeal.τ Cert.MergeMlpIdeal.sig) → Buf (Elt Ideal) ℓ) (g : Dev Cert.MergeMlpIdeal.nD → PrngReg), Pre_MergeMlpIdeal m →
    θ_run (Cert.MergeMlpIdeal.defs (F := Ideal)) (onTc (τ := Cert.MergeMlpIdeal.τ) (Cert.MergeMlpIdeal.main (F := Ideal))) ⟨m, fun _ => 0, g⟩ (fun r => (∀ c : Dev Cert.MergeMlpIdeal.nD,
      r.2.mem ((c.tc : Thread Cert.MergeMlpIdeal.nD Cert.MergeMlpIdeal.τ).loc Cert.MergeMlpIdeal.main_arg0) = m ((c.tc : Thread Cert.MergeMlpIdeal.nD Cert.MergeMlpIdeal.τ).loc Cert.MergeMlpIdeal.main_arg0)
      ∧ r.2.mem ((c.tc : Thread Cert.MergeMlpIdeal.nD Cert.MergeMlpIdeal.τ).loc Cert.MergeMlpIdeal.main_arg1) = m ((c.tc : Thread Cert.MergeMlpIdeal.nD Cert.MergeMlpIdeal.τ).loc Cert.MergeMlpIdeal.main_arg1)
      ∧ r.2.mem ((c.tc : Thread Cert.MergeMlpIdeal.nD Cert.MergeMlpIdeal.τ).loc Cert.MergeMlpIdeal.main_arg2) = m ((c.tc : Thread Cert.MergeMlpIdeal.nD Cert.MergeMlpIdeal.τ).loc Cert.MergeMlpIdeal.main_arg2)
      ∧ r.2.mem ((c.tc : Thread Cert.MergeMlpIdeal.nD Cert.MergeMlpIdeal.τ).loc Cert.MergeMlpIdeal.main_arg3) = m ((c.tc : Thread Cert.MergeMlpIdeal.nD Cert.MergeMlpIdeal.τ).loc Cert.MergeMlpIdeal.main_arg3)
      ∧ r.2.mem ((c.tc : Thread Cert.MergeMlpIdeal.nD Cert.MergeMlpIdeal.τ).loc Cert.MergeMlpIdeal.main_arg4) = m ((c.tc : Thread Cert.MergeMlpIdeal.nD Cert.MergeMlpIdeal.τ).loc Cert.MergeMlpIdeal.main_arg4)
      ∧ r.2.mem ((c.tc : Thread Cert.MergeMlpIdeal.nD Cert.MergeMlpIdeal.τ).loc Cert.MergeMlpIdeal.main_arg5) = m ((c.tc : Thread Cert.MergeMlpIdeal.nD Cert.MergeMlpIdeal.τ).loc Cert.MergeMlpIdeal.main_arg5)
      ∧ r.2.mem ((c.tc : Thread Cert.MergeMlpIdeal.nD Cert.MergeMlpIdeal.τ).loc Cert.MergeMlpIdeal.main_arg6) = m ((c.tc : Thread Cert.MergeMlpIdeal.nD Cert.MergeMlpIdeal.τ).loc Cert.MergeMlpIdeal.main_arg6)
      ∧ r.2.mem ((c.tc : Thread Cert.MergeMlpIdeal.nD Cert.MergeMlpIdeal.τ).loc Cert.MergeMlpIdeal.main_arg7) = m ((c.tc : Thread Cert.MergeMlpIdeal.nD Cert.MergeMlpIdeal.τ).loc Cert.MergeMlpIdeal.main_arg7)
      ∧ r.2.mem ((c.tc : Thread Cert.MergeMlpIdeal.nD Cert.MergeMlpIdeal.τ).loc Cert.MergeMlpIdeal.main_arg8) = m ((c.tc : Thread Cert.MergeMlpIdeal.nD Cert.MergeMlpIdeal.τ).loc Cert.MergeMlpIdeal.main_arg8)
      ∧ r.2.mem ((c.tc : Thread Cert.MergeMlpIdeal.nD Cert.MergeMlpIdeal.τ).loc Cert.MergeMlpIdeal.main_arg9) = m ((c.tc : Thread Cert.MergeMlpIdeal.nD Cert.MergeMlpIdeal.τ).loc Cert.MergeMlpIdeal.main_arg9)
      ∧ r.2.mem ((c.tc : Thread Cert.MergeMlpIdeal.nD Cert.MergeMlpIdeal.τ).loc Cert.MergeMlpIdeal.main_arg10) = m ((c.tc : Thread Cert.MergeMlpIdeal.nD Cert.MergeMlpIdeal.τ).loc Cert.MergeMlpIdeal.main_arg10)
      ∧ r.2.mem ((c.tc : Thread Cert.MergeMlpIdeal.nD Cert.MergeMlpIdeal.τ).loc Cert.MergeMlpIdeal.main_arg11) = m ((c.tc : Thread Cert.MergeMlpIdeal.nD Cert.MergeMlpIdeal.τ).loc Cert.MergeMlpIdeal.main_arg11))
      ∧ r.2.sem = fun _ => 0)

def quiescent_MergeMlpRefIdeal [hMergeMlpRefIdeal : Cert.MergeMlpRefIdeal.Facts] : Prop :=
  ∀ (m : (ℓ : Loc Cert.MergeMlpRefIdeal.nD Cert.MergeMlpRefIdeal.τ Cert.MergeMlpRefIdeal.sig) → Buf (Elt Ideal) ℓ) (g : Dev Cert.MergeMlpRefIdeal.nD → PrngReg), Pre_MergeMlpRefIdeal m →
    θ_run (Cert.MergeMlpRefIdeal.defs (F := Ideal)) (onTc (τ := Cert.MergeMlpRefIdeal.τ) (Cert.MergeMlpRefIdeal.main (F := Ideal))) ⟨m, fun _ => 0, g⟩ (fun r => (∀ c : Dev Cert.MergeMlpRefIdeal.nD,
      r.2.mem ((c.tc : Thread Cert.MergeMlpRefIdeal.nD Cert.MergeMlpRefIdeal.τ).loc Cert.MergeMlpRefIdeal.main_arg0) = m ((c.tc : Thread Cert.MergeMlpRefIdeal.nD Cert.MergeMlpRefIdeal.τ).loc Cert.MergeMlpRefIdeal.main_arg0)
      ∧ r.2.mem ((c.tc : Thread Cert.MergeMlpRefIdeal.nD Cert.MergeMlpRefIdeal.τ).loc Cert.MergeMlpRefIdeal.main_arg1) = m ((c.tc : Thread Cert.MergeMlpRefIdeal.nD Cert.MergeMlpRefIdeal.τ).loc Cert.MergeMlpRefIdeal.main_arg1)
      ∧ r.2.mem ((c.tc : Thread Cert.MergeMlpRefIdeal.nD Cert.MergeMlpRefIdeal.τ).loc Cert.MergeMlpRefIdeal.main_arg2) = m ((c.tc : Thread Cert.MergeMlpRefIdeal.nD Cert.MergeMlpRefIdeal.τ).loc Cert.MergeMlpRefIdeal.main_arg2)
      ∧ r.2.mem ((c.tc : Thread Cert.MergeMlpRefIdeal.nD Cert.MergeMlpRefIdeal.τ).loc Cert.MergeMlpRefIdeal.main_arg3) = m ((c.tc : Thread Cert.MergeMlpRefIdeal.nD Cert.MergeMlpRefIdeal.τ).loc Cert.MergeMlpRefIdeal.main_arg3)
      ∧ r.2.mem ((c.tc : Thread Cert.MergeMlpRefIdeal.nD Cert.MergeMlpRefIdeal.τ).loc Cert.MergeMlpRefIdeal.main_arg4) = m ((c.tc : Thread Cert.MergeMlpRefIdeal.nD Cert.MergeMlpRefIdeal.τ).loc Cert.MergeMlpRefIdeal.main_arg4)
      ∧ r.2.mem ((c.tc : Thread Cert.MergeMlpRefIdeal.nD Cert.MergeMlpRefIdeal.τ).loc Cert.MergeMlpRefIdeal.main_arg5) = m ((c.tc : Thread Cert.MergeMlpRefIdeal.nD Cert.MergeMlpRefIdeal.τ).loc Cert.MergeMlpRefIdeal.main_arg5)
      ∧ r.2.mem ((c.tc : Thread Cert.MergeMlpRefIdeal.nD Cert.MergeMlpRefIdeal.τ).loc Cert.MergeMlpRefIdeal.main_arg6) = m ((c.tc : Thread Cert.MergeMlpRefIdeal.nD Cert.MergeMlpRefIdeal.τ).loc Cert.MergeMlpRefIdeal.main_arg6)
      ∧ r.2.mem ((c.tc : Thread Cert.MergeMlpRefIdeal.nD Cert.MergeMlpRefIdeal.τ).loc Cert.MergeMlpRefIdeal.main_arg7) = m ((c.tc : Thread Cert.MergeMlpRefIdeal.nD Cert.MergeMlpRefIdeal.τ).loc Cert.MergeMlpRefIdeal.main_arg7)
      ∧ r.2.mem ((c.tc : Thread Cert.MergeMlpRefIdeal.nD Cert.MergeMlpRefIdeal.τ).loc Cert.MergeMlpRefIdeal.main_arg8) = m ((c.tc : Thread Cert.MergeMlpRefIdeal.nD Cert.MergeMlpRefIdeal.τ).loc Cert.MergeMlpRefIdeal.main_arg8)
      ∧ r.2.mem ((c.tc : Thread Cert.MergeMlpRefIdeal.nD Cert.MergeMlpRefIdeal.τ).loc Cert.MergeMlpRefIdeal.main_arg9) = m ((c.tc : Thread Cert.MergeMlpRefIdeal.nD Cert.MergeMlpRefIdeal.τ).loc Cert.MergeMlpRefIdeal.main_arg9)
      ∧ r.2.mem ((c.tc : Thread Cert.MergeMlpRefIdeal.nD Cert.MergeMlpRefIdeal.τ).loc Cert.MergeMlpRefIdeal.main_arg10) = m ((c.tc : Thread Cert.MergeMlpRefIdeal.nD Cert.MergeMlpRefIdeal.τ).loc Cert.MergeMlpRefIdeal.main_arg10)
      ∧ r.2.mem ((c.tc : Thread Cert.MergeMlpRefIdeal.nD Cert.MergeMlpRefIdeal.τ).loc Cert.MergeMlpRefIdeal.main_arg11) = m ((c.tc : Thread Cert.MergeMlpRefIdeal.nD Cert.MergeMlpRefIdeal.τ).loc Cert.MergeMlpRefIdeal.main_arg11))
      ∧ r.2.sem = fun _ => 0)

def quiescent_MergeMlpS [hMergeMlpS : Cert.MergeMlpS.Facts] : Prop :=
  ∀ (m : (ℓ : Loc Cert.MergeMlpS.nD Cert.MergeMlpS.τ Cert.MergeMlpS.sig) → Buf (Elt Bits) ℓ) (g : Dev Cert.MergeMlpS.nD → PrngReg), Pre_MergeMlpS m →
    θ_run (Cert.MergeMlpS.defs (F := Bits)) (onTc (τ := Cert.MergeMlpS.τ) (Cert.MergeMlpS.main (F := Bits))) ⟨m, fun _ => 0, g⟩ (fun r => (∀ c : Dev Cert.MergeMlpS.nD,
      r.2.mem ((c.tc : Thread Cert.MergeMlpS.nD Cert.MergeMlpS.τ).loc Cert.MergeMlpS.main_arg0) = m ((c.tc : Thread Cert.MergeMlpS.nD Cert.MergeMlpS.τ).loc Cert.MergeMlpS.main_arg0)
      ∧ r.2.mem ((c.tc : Thread Cert.MergeMlpS.nD Cert.MergeMlpS.τ).loc Cert.MergeMlpS.main_arg1) = m ((c.tc : Thread Cert.MergeMlpS.nD Cert.MergeMlpS.τ).loc Cert.MergeMlpS.main_arg1)
      ∧ r.2.mem ((c.tc : Thread Cert.MergeMlpS.nD Cert.MergeMlpS.τ).loc Cert.MergeMlpS.main_arg2) = m ((c.tc : Thread Cert.MergeMlpS.nD Cert.MergeMlpS.τ).loc Cert.MergeMlpS.main_arg2)
      ∧ r.2.mem ((c.tc : Thread Cert.MergeMlpS.nD Cert.MergeMlpS.τ).loc Cert.MergeMlpS.main_arg3) = m ((c.tc : Thread Cert.MergeMlpS.nD Cert.MergeMlpS.τ).loc Cert.MergeMlpS.main_arg3)
      ∧ r.2.mem ((c.tc : Thread Cert.MergeMlpS.nD Cert.MergeMlpS.τ).loc Cert.MergeMlpS.main_arg4) = m ((c.tc : Thread Cert.MergeMlpS.nD Cert.MergeMlpS.τ).loc Cert.MergeMlpS.main_arg4)
      ∧ r.2.mem ((c.tc : Thread Cert.MergeMlpS.nD Cert.MergeMlpS.τ).loc Cert.MergeMlpS.main_arg5) = m ((c.tc : Thread Cert.MergeMlpS.nD Cert.MergeMlpS.τ).loc Cert.MergeMlpS.main_arg5)
      ∧ r.2.mem ((c.tc : Thread Cert.MergeMlpS.nD Cert.MergeMlpS.τ).loc Cert.MergeMlpS.main_arg6) = m ((c.tc : Thread Cert.MergeMlpS.nD Cert.MergeMlpS.τ).loc Cert.MergeMlpS.main_arg6)
      ∧ r.2.mem ((c.tc : Thread Cert.MergeMlpS.nD Cert.MergeMlpS.τ).loc Cert.MergeMlpS.main_arg7) = m ((c.tc : Thread Cert.MergeMlpS.nD Cert.MergeMlpS.τ).loc Cert.MergeMlpS.main_arg7)
      ∧ r.2.mem ((c.tc : Thread Cert.MergeMlpS.nD Cert.MergeMlpS.τ).loc Cert.MergeMlpS.main_arg8) = m ((c.tc : Thread Cert.MergeMlpS.nD Cert.MergeMlpS.τ).loc Cert.MergeMlpS.main_arg8)
      ∧ r.2.mem ((c.tc : Thread Cert.MergeMlpS.nD Cert.MergeMlpS.τ).loc Cert.MergeMlpS.main_arg9) = m ((c.tc : Thread Cert.MergeMlpS.nD Cert.MergeMlpS.τ).loc Cert.MergeMlpS.main_arg9)
      ∧ r.2.mem ((c.tc : Thread Cert.MergeMlpS.nD Cert.MergeMlpS.τ).loc Cert.MergeMlpS.main_arg10) = m ((c.tc : Thread Cert.MergeMlpS.nD Cert.MergeMlpS.τ).loc Cert.MergeMlpS.main_arg10)
      ∧ r.2.mem ((c.tc : Thread Cert.MergeMlpS.nD Cert.MergeMlpS.τ).loc Cert.MergeMlpS.main_arg11) = m ((c.tc : Thread Cert.MergeMlpS.nD Cert.MergeMlpS.τ).loc Cert.MergeMlpS.main_arg11))
      ∧ r.2.sem = fun _ => 0)

def quiescent_MergeMlpSIdeal [hMergeMlpSIdeal : Cert.MergeMlpSIdeal.Facts] : Prop :=
  ∀ (m : (ℓ : Loc Cert.MergeMlpSIdeal.nD Cert.MergeMlpSIdeal.τ Cert.MergeMlpSIdeal.sig) → Buf (Elt Ideal) ℓ) (g : Dev Cert.MergeMlpSIdeal.nD → PrngReg), Pre_MergeMlpSIdeal m →
    θ_run (Cert.MergeMlpSIdeal.defs (F := Ideal)) (onTc (τ := Cert.MergeMlpSIdeal.τ) (Cert.MergeMlpSIdeal.main (F := Ideal))) ⟨m, fun _ => 0, g⟩ (fun r => (∀ c : Dev Cert.MergeMlpSIdeal.nD,
      r.2.mem ((c.tc : Thread Cert.MergeMlpSIdeal.nD Cert.MergeMlpSIdeal.τ).loc Cert.MergeMlpSIdeal.main_arg0) = m ((c.tc : Thread Cert.MergeMlpSIdeal.nD Cert.MergeMlpSIdeal.τ).loc Cert.MergeMlpSIdeal.main_arg0)
      ∧ r.2.mem ((c.tc : Thread Cert.MergeMlpSIdeal.nD Cert.MergeMlpSIdeal.τ).loc Cert.MergeMlpSIdeal.main_arg1) = m ((c.tc : Thread Cert.MergeMlpSIdeal.nD Cert.MergeMlpSIdeal.τ).loc Cert.MergeMlpSIdeal.main_arg1)
      ∧ r.2.mem ((c.tc : Thread Cert.MergeMlpSIdeal.nD Cert.MergeMlpSIdeal.τ).loc Cert.MergeMlpSIdeal.main_arg2) = m ((c.tc : Thread Cert.MergeMlpSIdeal.nD Cert.MergeMlpSIdeal.τ).loc Cert.MergeMlpSIdeal.main_arg2)
      ∧ r.2.mem ((c.tc : Thread Cert.MergeMlpSIdeal.nD Cert.MergeMlpSIdeal.τ).loc Cert.MergeMlpSIdeal.main_arg3) = m ((c.tc : Thread Cert.MergeMlpSIdeal.nD Cert.MergeMlpSIdeal.τ).loc Cert.MergeMlpSIdeal.main_arg3)
      ∧ r.2.mem ((c.tc : Thread Cert.MergeMlpSIdeal.nD Cert.MergeMlpSIdeal.τ).loc Cert.MergeMlpSIdeal.main_arg4) = m ((c.tc : Thread Cert.MergeMlpSIdeal.nD Cert.MergeMlpSIdeal.τ).loc Cert.MergeMlpSIdeal.main_arg4)
      ∧ r.2.mem ((c.tc : Thread Cert.MergeMlpSIdeal.nD Cert.MergeMlpSIdeal.τ).loc Cert.MergeMlpSIdeal.main_arg5) = m ((c.tc : Thread Cert.MergeMlpSIdeal.nD Cert.MergeMlpSIdeal.τ).loc Cert.MergeMlpSIdeal.main_arg5)
      ∧ r.2.mem ((c.tc : Thread Cert.MergeMlpSIdeal.nD Cert.MergeMlpSIdeal.τ).loc Cert.MergeMlpSIdeal.main_arg6) = m ((c.tc : Thread Cert.MergeMlpSIdeal.nD Cert.MergeMlpSIdeal.τ).loc Cert.MergeMlpSIdeal.main_arg6)
      ∧ r.2.mem ((c.tc : Thread Cert.MergeMlpSIdeal.nD Cert.MergeMlpSIdeal.τ).loc Cert.MergeMlpSIdeal.main_arg7) = m ((c.tc : Thread Cert.MergeMlpSIdeal.nD Cert.MergeMlpSIdeal.τ).loc Cert.MergeMlpSIdeal.main_arg7)
      ∧ r.2.mem ((c.tc : Thread Cert.MergeMlpSIdeal.nD Cert.MergeMlpSIdeal.τ).loc Cert.MergeMlpSIdeal.main_arg8) = m ((c.tc : Thread Cert.MergeMlpSIdeal.nD Cert.MergeMlpSIdeal.τ).loc Cert.MergeMlpSIdeal.main_arg8)
      ∧ r.2.mem ((c.tc : Thread Cert.MergeMlpSIdeal.nD Cert.MergeMlpSIdeal.τ).loc Cert.MergeMlpSIdeal.main_arg9) = m ((c.tc : Thread Cert.MergeMlpSIdeal.nD Cert.MergeMlpSIdeal.τ).loc Cert.MergeMlpSIdeal.main_arg9)
      ∧ r.2.mem ((c.tc : Thread Cert.MergeMlpSIdeal.nD Cert.MergeMlpSIdeal.τ).loc Cert.MergeMlpSIdeal.main_arg10) = m ((c.tc : Thread Cert.MergeMlpSIdeal.nD Cert.MergeMlpSIdeal.τ).loc Cert.MergeMlpSIdeal.main_arg10)
      ∧ r.2.mem ((c.tc : Thread Cert.MergeMlpSIdeal.nD Cert.MergeMlpSIdeal.τ).loc Cert.MergeMlpSIdeal.main_arg11) = m ((c.tc : Thread Cert.MergeMlpSIdeal.nD Cert.MergeMlpSIdeal.τ).loc Cert.MergeMlpSIdeal.main_arg11))
      ∧ r.2.sem = fun _ => 0)

def quiescent_MergeMlpSRefIdeal [hMergeMlpSRefIdeal : Cert.MergeMlpSRefIdeal.Facts] : Prop :=
  ∀ (m : (ℓ : Loc Cert.MergeMlpSRefIdeal.nD Cert.MergeMlpSRefIdeal.τ Cert.MergeMlpSRefIdeal.sig) → Buf (Elt Ideal) ℓ) (g : Dev Cert.MergeMlpSRefIdeal.nD → PrngReg), Pre_MergeMlpSRefIdeal m →
    θ_run (Cert.MergeMlpSRefIdeal.defs (F := Ideal)) (onTc (τ := Cert.MergeMlpSRefIdeal.τ) (Cert.MergeMlpSRefIdeal.main (F := Ideal))) ⟨m, fun _ => 0, g⟩ (fun r => (∀ c : Dev Cert.MergeMlpSRefIdeal.nD,
      r.2.mem ((c.tc : Thread Cert.MergeMlpSRefIdeal.nD Cert.MergeMlpSRefIdeal.τ).loc Cert.MergeMlpSRefIdeal.main_arg0) = m ((c.tc : Thread Cert.MergeMlpSRefIdeal.nD Cert.MergeMlpSRefIdeal.τ).loc Cert.MergeMlpSRefIdeal.main_arg0)
      ∧ r.2.mem ((c.tc : Thread Cert.MergeMlpSRefIdeal.nD Cert.MergeMlpSRefIdeal.τ).loc Cert.MergeMlpSRefIdeal.main_arg1) = m ((c.tc : Thread Cert.MergeMlpSRefIdeal.nD Cert.MergeMlpSRefIdeal.τ).loc Cert.MergeMlpSRefIdeal.main_arg1)
      ∧ r.2.mem ((c.tc : Thread Cert.MergeMlpSRefIdeal.nD Cert.MergeMlpSRefIdeal.τ).loc Cert.MergeMlpSRefIdeal.main_arg2) = m ((c.tc : Thread Cert.MergeMlpSRefIdeal.nD Cert.MergeMlpSRefIdeal.τ).loc Cert.MergeMlpSRefIdeal.main_arg2)
      ∧ r.2.mem ((c.tc : Thread Cert.MergeMlpSRefIdeal.nD Cert.MergeMlpSRefIdeal.τ).loc Cert.MergeMlpSRefIdeal.main_arg3) = m ((c.tc : Thread Cert.MergeMlpSRefIdeal.nD Cert.MergeMlpSRefIdeal.τ).loc Cert.MergeMlpSRefIdeal.main_arg3)
      ∧ r.2.mem ((c.tc : Thread Cert.MergeMlpSRefIdeal.nD Cert.MergeMlpSRefIdeal.τ).loc Cert.MergeMlpSRefIdeal.main_arg4) = m ((c.tc : Thread Cert.MergeMlpSRefIdeal.nD Cert.MergeMlpSRefIdeal.τ).loc Cert.MergeMlpSRefIdeal.main_arg4)
      ∧ r.2.mem ((c.tc : Thread Cert.MergeMlpSRefIdeal.nD Cert.MergeMlpSRefIdeal.τ).loc Cert.MergeMlpSRefIdeal.main_arg5) = m ((c.tc : Thread Cert.MergeMlpSRefIdeal.nD Cert.MergeMlpSRefIdeal.τ).loc Cert.MergeMlpSRefIdeal.main_arg5)
      ∧ r.2.mem ((c.tc : Thread Cert.MergeMlpSRefIdeal.nD Cert.MergeMlpSRefIdeal.τ).loc Cert.MergeMlpSRefIdeal.main_arg6) = m ((c.tc : Thread Cert.MergeMlpSRefIdeal.nD Cert.MergeMlpSRefIdeal.τ).loc Cert.MergeMlpSRefIdeal.main_arg6)
      ∧ r.2.mem ((c.tc : Thread Cert.MergeMlpSRefIdeal.nD Cert.MergeMlpSRefIdeal.τ).loc Cert.MergeMlpSRefIdeal.main_arg7) = m ((c.tc : Thread Cert.MergeMlpSRefIdeal.nD Cert.MergeMlpSRefIdeal.τ).loc Cert.MergeMlpSRefIdeal.main_arg7)
      ∧ r.2.mem ((c.tc : Thread Cert.MergeMlpSRefIdeal.nD Cert.MergeMlpSRefIdeal.τ).loc Cert.MergeMlpSRefIdeal.main_arg8) = m ((c.tc : Thread Cert.MergeMlpSRefIdeal.nD Cert.MergeMlpSRefIdeal.τ).loc Cert.MergeMlpSRefIdeal.main_arg8)
      ∧ r.2.mem ((c.tc : Thread Cert.MergeMlpSRefIdeal.nD Cert.MergeMlpSRefIdeal.τ).loc Cert.MergeMlpSRefIdeal.main_arg9) = m ((c.tc : Thread Cert.MergeMlpSRefIdeal.nD Cert.MergeMlpSRefIdeal.τ).loc Cert.MergeMlpSRefIdeal.main_arg9)
      ∧ r.2.mem ((c.tc : Thread Cert.MergeMlpSRefIdeal.nD Cert.MergeMlpSRefIdeal.τ).loc Cert.MergeMlpSRefIdeal.main_arg10) = m ((c.tc : Thread Cert.MergeMlpSRefIdeal.nD Cert.MergeMlpSRefIdeal.τ).loc Cert.MergeMlpSRefIdeal.main_arg10)
      ∧ r.2.mem ((c.tc : Thread Cert.MergeMlpSRefIdeal.nD Cert.MergeMlpSRefIdeal.τ).loc Cert.MergeMlpSRefIdeal.main_arg11) = m ((c.tc : Thread Cert.MergeMlpSRefIdeal.nD Cert.MergeMlpSRefIdeal.τ).loc Cert.MergeMlpSRefIdeal.main_arg11))
      ∧ r.2.sem = fun _ => 0)

def quiescent_DeltaStep [hDeltaStep : Cert.DeltaStep.Facts] : Prop :=
  ∀ (m : (ℓ : Loc Cert.DeltaStep.nD Cert.DeltaStep.τ Cert.DeltaStep.sig) → Buf (Elt Bits) ℓ) (g : Dev Cert.DeltaStep.nD → PrngReg), Pre_DeltaStep m →
    θ_run (Cert.DeltaStep.defs (F := Bits)) (onTc (τ := Cert.DeltaStep.τ) (Cert.DeltaStep.main (F := Bits))) ⟨m, fun _ => 0, g⟩ (fun r => (∀ c : Dev Cert.DeltaStep.nD,
      r.2.mem ((c.tc : Thread Cert.DeltaStep.nD Cert.DeltaStep.τ).loc Cert.DeltaStep.main_arg0) = m ((c.tc : Thread Cert.DeltaStep.nD Cert.DeltaStep.τ).loc Cert.DeltaStep.main_arg0)
      ∧ r.2.mem ((c.tc : Thread Cert.DeltaStep.nD Cert.DeltaStep.τ).loc Cert.DeltaStep.main_arg1) = m ((c.tc : Thread Cert.DeltaStep.nD Cert.DeltaStep.τ).loc Cert.DeltaStep.main_arg1)
      ∧ r.2.mem ((c.tc : Thread Cert.DeltaStep.nD Cert.DeltaStep.τ).loc Cert.DeltaStep.main_arg2) = m ((c.tc : Thread Cert.DeltaStep.nD Cert.DeltaStep.τ).loc Cert.DeltaStep.main_arg2)
      ∧ r.2.mem ((c.tc : Thread Cert.DeltaStep.nD Cert.DeltaStep.τ).loc Cert.DeltaStep.main_arg3) = m ((c.tc : Thread Cert.DeltaStep.nD Cert.DeltaStep.τ).loc Cert.DeltaStep.main_arg3)
      ∧ r.2.mem ((c.tc : Thread Cert.DeltaStep.nD Cert.DeltaStep.τ).loc Cert.DeltaStep.main_arg4) = m ((c.tc : Thread Cert.DeltaStep.nD Cert.DeltaStep.τ).loc Cert.DeltaStep.main_arg4)
      ∧ r.2.mem ((c.tc : Thread Cert.DeltaStep.nD Cert.DeltaStep.τ).loc Cert.DeltaStep.main_arg5) = m ((c.tc : Thread Cert.DeltaStep.nD Cert.DeltaStep.τ).loc Cert.DeltaStep.main_arg5)
      ∧ r.2.mem ((c.tc : Thread Cert.DeltaStep.nD Cert.DeltaStep.τ).loc Cert.DeltaStep.main_arg6) = m ((c.tc : Thread Cert.DeltaStep.nD Cert.DeltaStep.τ).loc Cert.DeltaStep.main_arg6)
      ∧ r.2.mem ((c.tc : Thread Cert.DeltaStep.nD Cert.DeltaStep.τ).loc Cert.DeltaStep.main_arg7) = m ((c.tc : Thread Cert.DeltaStep.nD Cert.DeltaStep.τ).loc Cert.DeltaStep.main_arg7)
      ∧ r.2.mem ((c.tc : Thread Cert.DeltaStep.nD Cert.DeltaStep.τ).loc Cert.DeltaStep.main_arg8) = m ((c.tc : Thread Cert.DeltaStep.nD Cert.DeltaStep.τ).loc Cert.DeltaStep.main_arg8))
      ∧ r.2.sem = fun _ => 0)

def quiescent_DeltaStepIdeal [hDeltaStepIdeal : Cert.DeltaStepIdeal.Facts] : Prop :=
  ∀ (m : (ℓ : Loc Cert.DeltaStepIdeal.nD Cert.DeltaStepIdeal.τ Cert.DeltaStepIdeal.sig) → Buf (Elt Ideal) ℓ) (g : Dev Cert.DeltaStepIdeal.nD → PrngReg), Pre_DeltaStepIdeal m →
    θ_run (Cert.DeltaStepIdeal.defs (F := Ideal)) (onTc (τ := Cert.DeltaStepIdeal.τ) (Cert.DeltaStepIdeal.main (F := Ideal))) ⟨m, fun _ => 0, g⟩ (fun r => (∀ c : Dev Cert.DeltaStepIdeal.nD,
      r.2.mem ((c.tc : Thread Cert.DeltaStepIdeal.nD Cert.DeltaStepIdeal.τ).loc Cert.DeltaStepIdeal.main_arg0) = m ((c.tc : Thread Cert.DeltaStepIdeal.nD Cert.DeltaStepIdeal.τ).loc Cert.DeltaStepIdeal.main_arg0)
      ∧ r.2.mem ((c.tc : Thread Cert.DeltaStepIdeal.nD Cert.DeltaStepIdeal.τ).loc Cert.DeltaStepIdeal.main_arg1) = m ((c.tc : Thread Cert.DeltaStepIdeal.nD Cert.DeltaStepIdeal.τ).loc Cert.DeltaStepIdeal.main_arg1)
      ∧ r.2.mem ((c.tc : Thread Cert.DeltaStepIdeal.nD Cert.DeltaStepIdeal.τ).loc Cert.DeltaStepIdeal.main_arg2) = m ((c.tc : Thread Cert.DeltaStepIdeal.nD Cert.DeltaStepIdeal.τ).loc Cert.DeltaStepIdeal.main_arg2)
      ∧ r.2.mem ((c.tc : Thread Cert.DeltaStepIdeal.nD Cert.DeltaStepIdeal.τ).loc Cert.DeltaStepIdeal.main_arg3) = m ((c.tc : Thread Cert.DeltaStepIdeal.nD Cert.DeltaStepIdeal.τ).loc Cert.DeltaStepIdeal.main_arg3)
      ∧ r.2.mem ((c.tc : Thread Cert.DeltaStepIdeal.nD Cert.DeltaStepIdeal.τ).loc Cert.DeltaStepIdeal.main_arg4) = m ((c.tc : Thread Cert.DeltaStepIdeal.nD Cert.DeltaStepIdeal.τ).loc Cert.DeltaStepIdeal.main_arg4)
      ∧ r.2.mem ((c.tc : Thread Cert.DeltaStepIdeal.nD Cert.DeltaStepIdeal.τ).loc Cert.DeltaStepIdeal.main_arg5) = m ((c.tc : Thread Cert.DeltaStepIdeal.nD Cert.DeltaStepIdeal.τ).loc Cert.DeltaStepIdeal.main_arg5)
      ∧ r.2.mem ((c.tc : Thread Cert.DeltaStepIdeal.nD Cert.DeltaStepIdeal.τ).loc Cert.DeltaStepIdeal.main_arg6) = m ((c.tc : Thread Cert.DeltaStepIdeal.nD Cert.DeltaStepIdeal.τ).loc Cert.DeltaStepIdeal.main_arg6)
      ∧ r.2.mem ((c.tc : Thread Cert.DeltaStepIdeal.nD Cert.DeltaStepIdeal.τ).loc Cert.DeltaStepIdeal.main_arg7) = m ((c.tc : Thread Cert.DeltaStepIdeal.nD Cert.DeltaStepIdeal.τ).loc Cert.DeltaStepIdeal.main_arg7)
      ∧ r.2.mem ((c.tc : Thread Cert.DeltaStepIdeal.nD Cert.DeltaStepIdeal.τ).loc Cert.DeltaStepIdeal.main_arg8) = m ((c.tc : Thread Cert.DeltaStepIdeal.nD Cert.DeltaStepIdeal.τ).loc Cert.DeltaStepIdeal.main_arg8))
      ∧ r.2.sem = fun _ => 0)

def quiescent_DeltaStepRefIdeal [hDeltaStepRefIdeal : Cert.DeltaStepRefIdeal.Facts] : Prop :=
  ∀ (m : (ℓ : Loc Cert.DeltaStepRefIdeal.nD Cert.DeltaStepRefIdeal.τ Cert.DeltaStepRefIdeal.sig) → Buf (Elt Ideal) ℓ) (g : Dev Cert.DeltaStepRefIdeal.nD → PrngReg), Pre_DeltaStepRefIdeal m →
    θ_run (Cert.DeltaStepRefIdeal.defs (F := Ideal)) (onTc (τ := Cert.DeltaStepRefIdeal.τ) (Cert.DeltaStepRefIdeal.main (F := Ideal))) ⟨m, fun _ => 0, g⟩ (fun r => (∀ c : Dev Cert.DeltaStepRefIdeal.nD,
      r.2.mem ((c.tc : Thread Cert.DeltaStepRefIdeal.nD Cert.DeltaStepRefIdeal.τ).loc Cert.DeltaStepRefIdeal.main_arg0) = m ((c.tc : Thread Cert.DeltaStepRefIdeal.nD Cert.DeltaStepRefIdeal.τ).loc Cert.DeltaStepRefIdeal.main_arg0)
      ∧ r.2.mem ((c.tc : Thread Cert.DeltaStepRefIdeal.nD Cert.DeltaStepRefIdeal.τ).loc Cert.DeltaStepRefIdeal.main_arg1) = m ((c.tc : Thread Cert.DeltaStepRefIdeal.nD Cert.DeltaStepRefIdeal.τ).loc Cert.DeltaStepRefIdeal.main_arg1)
      ∧ r.2.mem ((c.tc : Thread Cert.DeltaStepRefIdeal.nD Cert.DeltaStepRefIdeal.τ).loc Cert.DeltaStepRefIdeal.main_arg2) = m ((c.tc : Thread Cert.DeltaStepRefIdeal.nD Cert.DeltaStepRefIdeal.τ).loc Cert.DeltaStepRefIdeal.main_arg2)
      ∧ r.2.mem ((c.tc : Thread Cert.DeltaStepRefIdeal.nD Cert.DeltaStepRefIdeal.τ).loc Cert.DeltaStepRefIdeal.main_arg3) = m ((c.tc : Thread Cert.DeltaStepRefIdeal.nD Cert.DeltaStepRefIdeal.τ).loc Cert.DeltaStepRefIdeal.main_arg3)
      ∧ r.2.mem ((c.tc : Thread Cert.DeltaStepRefIdeal.nD Cert.DeltaStepRefIdeal.τ).loc Cert.DeltaStepRefIdeal.main_arg4) = m ((c.tc : Thread Cert.DeltaStepRefIdeal.nD Cert.DeltaStepRefIdeal.τ).loc Cert.DeltaStepRefIdeal.main_arg4)
      ∧ r.2.mem ((c.tc : Thread Cert.DeltaStepRefIdeal.nD Cert.DeltaStepRefIdeal.τ).loc Cert.DeltaStepRefIdeal.main_arg5) = m ((c.tc : Thread Cert.DeltaStepRefIdeal.nD Cert.DeltaStepRefIdeal.τ).loc Cert.DeltaStepRefIdeal.main_arg5)
      ∧ r.2.mem ((c.tc : Thread Cert.DeltaStepRefIdeal.nD Cert.DeltaStepRefIdeal.τ).loc Cert.DeltaStepRefIdeal.main_arg6) = m ((c.tc : Thread Cert.DeltaStepRefIdeal.nD Cert.DeltaStepRefIdeal.τ).loc Cert.DeltaStepRefIdeal.main_arg6)
      ∧ r.2.mem ((c.tc : Thread Cert.DeltaStepRefIdeal.nD Cert.DeltaStepRefIdeal.τ).loc Cert.DeltaStepRefIdeal.main_arg7) = m ((c.tc : Thread Cert.DeltaStepRefIdeal.nD Cert.DeltaStepRefIdeal.τ).loc Cert.DeltaStepRefIdeal.main_arg7)
      ∧ r.2.mem ((c.tc : Thread Cert.DeltaStepRefIdeal.nD Cert.DeltaStepRefIdeal.τ).loc Cert.DeltaStepRefIdeal.main_arg8) = m ((c.tc : Thread Cert.DeltaStepRefIdeal.nD Cert.DeltaStepRefIdeal.τ).loc Cert.DeltaStepRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_MergeMlp_MergeMlpIdeal : Prop :=
  True

def algebraic_MergeMlpIdeal_MergeMlpRefIdeal [hMergeMlpIdeal : Cert.MergeMlpIdeal.Facts] [hMergeMlpRefIdeal : Cert.MergeMlpRefIdeal.Facts] : Prop :=
  ∀ (m : (ℓ : Loc Cert.MergeMlpIdeal.nD Cert.MergeMlpIdeal.τ Cert.MergeMlpIdeal.sig) → Buf (Elt Ideal) ℓ) (g : Dev Cert.MergeMlpIdeal.nD → PrngReg)
    (m' : (ℓ : Loc Cert.MergeMlpRefIdeal.nD Cert.MergeMlpRefIdeal.τ Cert.MergeMlpRefIdeal.sig) → Buf (Elt Ideal) ℓ) (g' : Dev Cert.MergeMlpRefIdeal.nD → PrngReg), Pre_MergeMlpIdeal m →
    (∀ c : Dev Cert.MergeMlpIdeal.nD,
      m' ((c.tc : Thread Cert.MergeMlpRefIdeal.nD Cert.MergeMlpRefIdeal.τ).loc Cert.MergeMlpRefIdeal.main_arg0) = m ((c.tc : Thread Cert.MergeMlpIdeal.nD Cert.MergeMlpIdeal.τ).loc Cert.MergeMlpIdeal.main_arg0)
      ∧ m' ((c.tc : Thread Cert.MergeMlpRefIdeal.nD Cert.MergeMlpRefIdeal.τ).loc Cert.MergeMlpRefIdeal.main_arg1) = m ((c.tc : Thread Cert.MergeMlpIdeal.nD Cert.MergeMlpIdeal.τ).loc Cert.MergeMlpIdeal.main_arg1)
      ∧ m' ((c.tc : Thread Cert.MergeMlpRefIdeal.nD Cert.MergeMlpRefIdeal.τ).loc Cert.MergeMlpRefIdeal.main_arg2) = m ((c.tc : Thread Cert.MergeMlpIdeal.nD Cert.MergeMlpIdeal.τ).loc Cert.MergeMlpIdeal.main_arg2)
      ∧ m' ((c.tc : Thread Cert.MergeMlpRefIdeal.nD Cert.MergeMlpRefIdeal.τ).loc Cert.MergeMlpRefIdeal.main_arg3) = m ((c.tc : Thread Cert.MergeMlpIdeal.nD Cert.MergeMlpIdeal.τ).loc Cert.MergeMlpIdeal.main_arg3)
      ∧ m' ((c.tc : Thread Cert.MergeMlpRefIdeal.nD Cert.MergeMlpRefIdeal.τ).loc Cert.MergeMlpRefIdeal.main_arg4) = m ((c.tc : Thread Cert.MergeMlpIdeal.nD Cert.MergeMlpIdeal.τ).loc Cert.MergeMlpIdeal.main_arg4)
      ∧ m' ((c.tc : Thread Cert.MergeMlpRefIdeal.nD Cert.MergeMlpRefIdeal.τ).loc Cert.MergeMlpRefIdeal.main_arg5) = m ((c.tc : Thread Cert.MergeMlpIdeal.nD Cert.MergeMlpIdeal.τ).loc Cert.MergeMlpIdeal.main_arg5)
      ∧ m' ((c.tc : Thread Cert.MergeMlpRefIdeal.nD Cert.MergeMlpRefIdeal.τ).loc Cert.MergeMlpRefIdeal.main_arg6) = m ((c.tc : Thread Cert.MergeMlpIdeal.nD Cert.MergeMlpIdeal.τ).loc Cert.MergeMlpIdeal.main_arg6)
      ∧ m' ((c.tc : Thread Cert.MergeMlpRefIdeal.nD Cert.MergeMlpRefIdeal.τ).loc Cert.MergeMlpRefIdeal.main_arg7) = m ((c.tc : Thread Cert.MergeMlpIdeal.nD Cert.MergeMlpIdeal.τ).loc Cert.MergeMlpIdeal.main_arg7)
      ∧ m' ((c.tc : Thread Cert.MergeMlpRefIdeal.nD Cert.MergeMlpRefIdeal.τ).loc Cert.MergeMlpRefIdeal.main_arg8) = m ((c.tc : Thread Cert.MergeMlpIdeal.nD Cert.MergeMlpIdeal.τ).loc Cert.MergeMlpIdeal.main_arg8)
      ∧ m' ((c.tc : Thread Cert.MergeMlpRefIdeal.nD Cert.MergeMlpRefIdeal.τ).loc Cert.MergeMlpRefIdeal.main_arg9) = m ((c.tc : Thread Cert.MergeMlpIdeal.nD Cert.MergeMlpIdeal.τ).loc Cert.MergeMlpIdeal.main_arg9)
      ∧ m' ((c.tc : Thread Cert.MergeMlpRefIdeal.nD Cert.MergeMlpRefIdeal.τ).loc Cert.MergeMlpRefIdeal.main_arg10) = m ((c.tc : Thread Cert.MergeMlpIdeal.nD Cert.MergeMlpIdeal.τ).loc Cert.MergeMlpIdeal.main_arg10)
      ∧ m' ((c.tc : Thread Cert.MergeMlpRefIdeal.nD Cert.MergeMlpRefIdeal.τ).loc Cert.MergeMlpRefIdeal.main_arg11) = m ((c.tc : Thread Cert.MergeMlpIdeal.nD Cert.MergeMlpIdeal.τ).loc Cert.MergeMlpIdeal.main_arg11)) →
    ∃ (v0 : (c : Dev Cert.MergeMlpIdeal.nD) → Buf (Elt Ideal) ((c.tc : Thread Cert.MergeMlpIdeal.nD Cert.MergeMlpIdeal.τ).loc Cert.MergeMlpIdeal.main_v2)),
      θ_run (Cert.MergeMlpIdeal.defs (F := Ideal)) (onTc (τ := Cert.MergeMlpIdeal.τ) (Cert.MergeMlpIdeal.main (F := Ideal))) ⟨m, fun _ => 0, g⟩ (fun r => ∀ c : Dev Cert.MergeMlpIdeal.nD,
          r.2.mem ((c.tc : Thread Cert.MergeMlpIdeal.nD Cert.MergeMlpIdeal.τ).loc Cert.MergeMlpIdeal.main_v2) = v0 c
          ∧ r.2.mem ((c.tc : Thread Cert.MergeMlpIdeal.nD Cert.MergeMlpIdeal.τ).loc Cert.MergeMlpIdeal.main_arg0) = m ((c.tc : Thread Cert.MergeMlpIdeal.nD Cert.MergeMlpIdeal.τ).loc Cert.MergeMlpIdeal.main_arg0)
          ∧ r.2.mem ((c.tc : Thread Cert.MergeMlpIdeal.nD Cert.MergeMlpIdeal.τ).loc Cert.MergeMlpIdeal.main_arg1) = m ((c.tc : Thread Cert.MergeMlpIdeal.nD Cert.MergeMlpIdeal.τ).loc Cert.MergeMlpIdeal.main_arg1)
          ∧ r.2.mem ((c.tc : Thread Cert.MergeMlpIdeal.nD Cert.MergeMlpIdeal.τ).loc Cert.MergeMlpIdeal.main_arg2) = m ((c.tc : Thread Cert.MergeMlpIdeal.nD Cert.MergeMlpIdeal.τ).loc Cert.MergeMlpIdeal.main_arg2)
          ∧ r.2.mem ((c.tc : Thread Cert.MergeMlpIdeal.nD Cert.MergeMlpIdeal.τ).loc Cert.MergeMlpIdeal.main_arg3) = m ((c.tc : Thread Cert.MergeMlpIdeal.nD Cert.MergeMlpIdeal.τ).loc Cert.MergeMlpIdeal.main_arg3)
          ∧ r.2.mem ((c.tc : Thread Cert.MergeMlpIdeal.nD Cert.MergeMlpIdeal.τ).loc Cert.MergeMlpIdeal.main_arg4) = m ((c.tc : Thread Cert.MergeMlpIdeal.nD Cert.MergeMlpIdeal.τ).loc Cert.MergeMlpIdeal.main_arg4)
          ∧ r.2.mem ((c.tc : Thread Cert.MergeMlpIdeal.nD Cert.MergeMlpIdeal.τ).loc Cert.MergeMlpIdeal.main_arg5) = m ((c.tc : Thread Cert.MergeMlpIdeal.nD Cert.MergeMlpIdeal.τ).loc Cert.MergeMlpIdeal.main_arg5)
          ∧ r.2.mem ((c.tc : Thread Cert.MergeMlpIdeal.nD Cert.MergeMlpIdeal.τ).loc Cert.MergeMlpIdeal.main_arg6) = m ((c.tc : Thread Cert.MergeMlpIdeal.nD Cert.MergeMlpIdeal.τ).loc Cert.MergeMlpIdeal.main_arg6)
          ∧ r.2.mem ((c.tc : Thread Cert.MergeMlpIdeal.nD Cert.MergeMlpIdeal.τ).loc Cert.MergeMlpIdeal.main_arg7) = m ((c.tc : Thread Cert.MergeMlpIdeal.nD Cert.MergeMlpIdeal.τ).loc Cert.MergeMlpIdeal.main_arg7)
          ∧ r.2.mem ((c.tc : Thread Cert.MergeMlpIdeal.nD Cert.MergeMlpIdeal.τ).loc Cert.MergeMlpIdeal.main_arg8) = m ((c.tc : Thread Cert.MergeMlpIdeal.nD Cert.MergeMlpIdeal.τ).loc Cert.MergeMlpIdeal.main_arg8)
          ∧ r.2.mem ((c.tc : Thread Cert.MergeMlpIdeal.nD Cert.MergeMlpIdeal.τ).loc Cert.MergeMlpIdeal.main_arg9) = m ((c.tc : Thread Cert.MergeMlpIdeal.nD Cert.MergeMlpIdeal.τ).loc Cert.MergeMlpIdeal.main_arg9)
          ∧ r.2.mem ((c.tc : Thread Cert.MergeMlpIdeal.nD Cert.MergeMlpIdeal.τ).loc Cert.MergeMlpIdeal.main_arg10) = m ((c.tc : Thread Cert.MergeMlpIdeal.nD Cert.MergeMlpIdeal.τ).loc Cert.MergeMlpIdeal.main_arg10)
          ∧ r.2.mem ((c.tc : Thread Cert.MergeMlpIdeal.nD Cert.MergeMlpIdeal.τ).loc Cert.MergeMlpIdeal.main_arg11) = m ((c.tc : Thread Cert.MergeMlpIdeal.nD Cert.MergeMlpIdeal.τ).loc Cert.MergeMlpIdeal.main_arg11))
      ∧ θ_run (Cert.MergeMlpRefIdeal.defs (F := Ideal)) (onTc (τ := Cert.MergeMlpRefIdeal.τ) (Cert.MergeMlpRefIdeal.main (F := Ideal))) ⟨m', fun _ => 0, g'⟩ (fun r => ∀ c : Dev Cert.MergeMlpRefIdeal.nD,
          r.2.mem ((c.tc : Thread Cert.MergeMlpRefIdeal.nD Cert.MergeMlpRefIdeal.τ).loc Cert.MergeMlpRefIdeal.main_v56) = v0 c
          ∧ r.2.mem ((c.tc : Thread Cert.MergeMlpRefIdeal.nD Cert.MergeMlpRefIdeal.τ).loc Cert.MergeMlpRefIdeal.main_arg0) = m' ((c.tc : Thread Cert.MergeMlpRefIdeal.nD Cert.MergeMlpRefIdeal.τ).loc Cert.MergeMlpRefIdeal.main_arg0)
          ∧ r.2.mem ((c.tc : Thread Cert.MergeMlpRefIdeal.nD Cert.MergeMlpRefIdeal.τ).loc Cert.MergeMlpRefIdeal.main_arg1) = m' ((c.tc : Thread Cert.MergeMlpRefIdeal.nD Cert.MergeMlpRefIdeal.τ).loc Cert.MergeMlpRefIdeal.main_arg1)
          ∧ r.2.mem ((c.tc : Thread Cert.MergeMlpRefIdeal.nD Cert.MergeMlpRefIdeal.τ).loc Cert.MergeMlpRefIdeal.main_arg2) = m' ((c.tc : Thread Cert.MergeMlpRefIdeal.nD Cert.MergeMlpRefIdeal.τ).loc Cert.MergeMlpRefIdeal.main_arg2)
          ∧ r.2.mem ((c.tc : Thread Cert.MergeMlpRefIdeal.nD Cert.MergeMlpRefIdeal.τ).loc Cert.MergeMlpRefIdeal.main_arg3) = m' ((c.tc : Thread Cert.MergeMlpRefIdeal.nD Cert.MergeMlpRefIdeal.τ).loc Cert.MergeMlpRefIdeal.main_arg3)
          ∧ r.2.mem ((c.tc : Thread Cert.MergeMlpRefIdeal.nD Cert.MergeMlpRefIdeal.τ).loc Cert.MergeMlpRefIdeal.main_arg4) = m' ((c.tc : Thread Cert.MergeMlpRefIdeal.nD Cert.MergeMlpRefIdeal.τ).loc Cert.MergeMlpRefIdeal.main_arg4)
          ∧ r.2.mem ((c.tc : Thread Cert.MergeMlpRefIdeal.nD Cert.MergeMlpRefIdeal.τ).loc Cert.MergeMlpRefIdeal.main_arg5) = m' ((c.tc : Thread Cert.MergeMlpRefIdeal.nD Cert.MergeMlpRefIdeal.τ).loc Cert.MergeMlpRefIdeal.main_arg5)
          ∧ r.2.mem ((c.tc : Thread Cert.MergeMlpRefIdeal.nD Cert.MergeMlpRefIdeal.τ).loc Cert.MergeMlpRefIdeal.main_arg6) = m' ((c.tc : Thread Cert.MergeMlpRefIdeal.nD Cert.MergeMlpRefIdeal.τ).loc Cert.MergeMlpRefIdeal.main_arg6)
          ∧ r.2.mem ((c.tc : Thread Cert.MergeMlpRefIdeal.nD Cert.MergeMlpRefIdeal.τ).loc Cert.MergeMlpRefIdeal.main_arg7) = m' ((c.tc : Thread Cert.MergeMlpRefIdeal.nD Cert.MergeMlpRefIdeal.τ).loc Cert.MergeMlpRefIdeal.main_arg7)
          ∧ r.2.mem ((c.tc : Thread Cert.MergeMlpRefIdeal.nD Cert.MergeMlpRefIdeal.τ).loc Cert.MergeMlpRefIdeal.main_arg8) = m' ((c.tc : Thread Cert.MergeMlpRefIdeal.nD Cert.MergeMlpRefIdeal.τ).loc Cert.MergeMlpRefIdeal.main_arg8)
          ∧ r.2.mem ((c.tc : Thread Cert.MergeMlpRefIdeal.nD Cert.MergeMlpRefIdeal.τ).loc Cert.MergeMlpRefIdeal.main_arg9) = m' ((c.tc : Thread Cert.MergeMlpRefIdeal.nD Cert.MergeMlpRefIdeal.τ).loc Cert.MergeMlpRefIdeal.main_arg9)
          ∧ r.2.mem ((c.tc : Thread Cert.MergeMlpRefIdeal.nD Cert.MergeMlpRefIdeal.τ).loc Cert.MergeMlpRefIdeal.main_arg10) = m' ((c.tc : Thread Cert.MergeMlpRefIdeal.nD Cert.MergeMlpRefIdeal.τ).loc Cert.MergeMlpRefIdeal.main_arg10)
          ∧ r.2.mem ((c.tc : Thread Cert.MergeMlpRefIdeal.nD Cert.MergeMlpRefIdeal.τ).loc Cert.MergeMlpRefIdeal.main_arg11) = m' ((c.tc : Thread Cert.MergeMlpRefIdeal.nD Cert.MergeMlpRefIdeal.τ).loc Cert.MergeMlpRefIdeal.main_arg11))

def preserves_MergeMlpS_MergeMlpSIdeal : Prop :=
  True

def algebraic_MergeMlpSIdeal_MergeMlpSRefIdeal [hMergeMlpSIdeal : Cert.MergeMlpSIdeal.Facts] [hMergeMlpSRefIdeal : Cert.MergeMlpSRefIdeal.Facts] : Prop :=
  ∀ (m : (ℓ : Loc Cert.MergeMlpSIdeal.nD Cert.MergeMlpSIdeal.τ Cert.MergeMlpSIdeal.sig) → Buf (Elt Ideal) ℓ) (g : Dev Cert.MergeMlpSIdeal.nD → PrngReg)
    (m' : (ℓ : Loc Cert.MergeMlpSRefIdeal.nD Cert.MergeMlpSRefIdeal.τ Cert.MergeMlpSRefIdeal.sig) → Buf (Elt Ideal) ℓ) (g' : Dev Cert.MergeMlpSRefIdeal.nD → PrngReg), Pre_MergeMlpSIdeal m →
    (∀ c : Dev Cert.MergeMlpSIdeal.nD,
      m' ((c.tc : Thread Cert.MergeMlpSRefIdeal.nD Cert.MergeMlpSRefIdeal.τ).loc Cert.MergeMlpSRefIdeal.main_arg0) = m ((c.tc : Thread Cert.MergeMlpSIdeal.nD Cert.MergeMlpSIdeal.τ).loc Cert.MergeMlpSIdeal.main_arg0)
      ∧ m' ((c.tc : Thread Cert.MergeMlpSRefIdeal.nD Cert.MergeMlpSRefIdeal.τ).loc Cert.MergeMlpSRefIdeal.main_arg1) = m ((c.tc : Thread Cert.MergeMlpSIdeal.nD Cert.MergeMlpSIdeal.τ).loc Cert.MergeMlpSIdeal.main_arg1)
      ∧ m' ((c.tc : Thread Cert.MergeMlpSRefIdeal.nD Cert.MergeMlpSRefIdeal.τ).loc Cert.MergeMlpSRefIdeal.main_arg2) = m ((c.tc : Thread Cert.MergeMlpSIdeal.nD Cert.MergeMlpSIdeal.τ).loc Cert.MergeMlpSIdeal.main_arg2)
      ∧ m' ((c.tc : Thread Cert.MergeMlpSRefIdeal.nD Cert.MergeMlpSRefIdeal.τ).loc Cert.MergeMlpSRefIdeal.main_arg3) = m ((c.tc : Thread Cert.MergeMlpSIdeal.nD Cert.MergeMlpSIdeal.τ).loc Cert.MergeMlpSIdeal.main_arg3)
      ∧ m' ((c.tc : Thread Cert.MergeMlpSRefIdeal.nD Cert.MergeMlpSRefIdeal.τ).loc Cert.MergeMlpSRefIdeal.main_arg4) = m ((c.tc : Thread Cert.MergeMlpSIdeal.nD Cert.MergeMlpSIdeal.τ).loc Cert.MergeMlpSIdeal.main_arg4)
      ∧ m' ((c.tc : Thread Cert.MergeMlpSRefIdeal.nD Cert.MergeMlpSRefIdeal.τ).loc Cert.MergeMlpSRefIdeal.main_arg5) = m ((c.tc : Thread Cert.MergeMlpSIdeal.nD Cert.MergeMlpSIdeal.τ).loc Cert.MergeMlpSIdeal.main_arg5)
      ∧ m' ((c.tc : Thread Cert.MergeMlpSRefIdeal.nD Cert.MergeMlpSRefIdeal.τ).loc Cert.MergeMlpSRefIdeal.main_arg6) = m ((c.tc : Thread Cert.MergeMlpSIdeal.nD Cert.MergeMlpSIdeal.τ).loc Cert.MergeMlpSIdeal.main_arg6)
      ∧ m' ((c.tc : Thread Cert.MergeMlpSRefIdeal.nD Cert.MergeMlpSRefIdeal.τ).loc Cert.MergeMlpSRefIdeal.main_arg7) = m ((c.tc : Thread Cert.MergeMlpSIdeal.nD Cert.MergeMlpSIdeal.τ).loc Cert.MergeMlpSIdeal.main_arg7)
      ∧ m' ((c.tc : Thread Cert.MergeMlpSRefIdeal.nD Cert.MergeMlpSRefIdeal.τ).loc Cert.MergeMlpSRefIdeal.main_arg8) = m ((c.tc : Thread Cert.MergeMlpSIdeal.nD Cert.MergeMlpSIdeal.τ).loc Cert.MergeMlpSIdeal.main_arg8)
      ∧ m' ((c.tc : Thread Cert.MergeMlpSRefIdeal.nD Cert.MergeMlpSRefIdeal.τ).loc Cert.MergeMlpSRefIdeal.main_arg9) = m ((c.tc : Thread Cert.MergeMlpSIdeal.nD Cert.MergeMlpSIdeal.τ).loc Cert.MergeMlpSIdeal.main_arg9)
      ∧ m' ((c.tc : Thread Cert.MergeMlpSRefIdeal.nD Cert.MergeMlpSRefIdeal.τ).loc Cert.MergeMlpSRefIdeal.main_arg10) = m ((c.tc : Thread Cert.MergeMlpSIdeal.nD Cert.MergeMlpSIdeal.τ).loc Cert.MergeMlpSIdeal.main_arg10)
      ∧ m' ((c.tc : Thread Cert.MergeMlpSRefIdeal.nD Cert.MergeMlpSRefIdeal.τ).loc Cert.MergeMlpSRefIdeal.main_arg11) = m ((c.tc : Thread Cert.MergeMlpSIdeal.nD Cert.MergeMlpSIdeal.τ).loc Cert.MergeMlpSIdeal.main_arg11)) →
    ∃ (v0 : (c : Dev Cert.MergeMlpSIdeal.nD) → Buf (Elt Ideal) ((c.tc : Thread Cert.MergeMlpSIdeal.nD Cert.MergeMlpSIdeal.τ).loc Cert.MergeMlpSIdeal.main_v2)),
      θ_run (Cert.MergeMlpSIdeal.defs (F := Ideal)) (onTc (τ := Cert.MergeMlpSIdeal.τ) (Cert.MergeMlpSIdeal.main (F := Ideal))) ⟨m, fun _ => 0, g⟩ (fun r => ∀ c : Dev Cert.MergeMlpSIdeal.nD,
          r.2.mem ((c.tc : Thread Cert.MergeMlpSIdeal.nD Cert.MergeMlpSIdeal.τ).loc Cert.MergeMlpSIdeal.main_v2) = v0 c
          ∧ r.2.mem ((c.tc : Thread Cert.MergeMlpSIdeal.nD Cert.MergeMlpSIdeal.τ).loc Cert.MergeMlpSIdeal.main_arg0) = m ((c.tc : Thread Cert.MergeMlpSIdeal.nD Cert.MergeMlpSIdeal.τ).loc Cert.MergeMlpSIdeal.main_arg0)
          ∧ r.2.mem ((c.tc : Thread Cert.MergeMlpSIdeal.nD Cert.MergeMlpSIdeal.τ).loc Cert.MergeMlpSIdeal.main_arg1) = m ((c.tc : Thread Cert.MergeMlpSIdeal.nD Cert.MergeMlpSIdeal.τ).loc Cert.MergeMlpSIdeal.main_arg1)
          ∧ r.2.mem ((c.tc : Thread Cert.MergeMlpSIdeal.nD Cert.MergeMlpSIdeal.τ).loc Cert.MergeMlpSIdeal.main_arg2) = m ((c.tc : Thread Cert.MergeMlpSIdeal.nD Cert.MergeMlpSIdeal.τ).loc Cert.MergeMlpSIdeal.main_arg2)
          ∧ r.2.mem ((c.tc : Thread Cert.MergeMlpSIdeal.nD Cert.MergeMlpSIdeal.τ).loc Cert.MergeMlpSIdeal.main_arg3) = m ((c.tc : Thread Cert.MergeMlpSIdeal.nD Cert.MergeMlpSIdeal.τ).loc Cert.MergeMlpSIdeal.main_arg3)
          ∧ r.2.mem ((c.tc : Thread Cert.MergeMlpSIdeal.nD Cert.MergeMlpSIdeal.τ).loc Cert.MergeMlpSIdeal.main_arg4) = m ((c.tc : Thread Cert.MergeMlpSIdeal.nD Cert.MergeMlpSIdeal.τ).loc Cert.MergeMlpSIdeal.main_arg4)
          ∧ r.2.mem ((c.tc : Thread Cert.MergeMlpSIdeal.nD Cert.MergeMlpSIdeal.τ).loc Cert.MergeMlpSIdeal.main_arg5) = m ((c.tc : Thread Cert.MergeMlpSIdeal.nD Cert.MergeMlpSIdeal.τ).loc Cert.MergeMlpSIdeal.main_arg5)
          ∧ r.2.mem ((c.tc : Thread Cert.MergeMlpSIdeal.nD Cert.MergeMlpSIdeal.τ).loc Cert.MergeMlpSIdeal.main_arg6) = m ((c.tc : Thread Cert.MergeMlpSIdeal.nD Cert.MergeMlpSIdeal.τ).loc Cert.MergeMlpSIdeal.main_arg6)
          ∧ r.2.mem ((c.tc : Thread Cert.MergeMlpSIdeal.nD Cert.MergeMlpSIdeal.τ).loc Cert.MergeMlpSIdeal.main_arg7) = m ((c.tc : Thread Cert.MergeMlpSIdeal.nD Cert.MergeMlpSIdeal.τ).loc Cert.MergeMlpSIdeal.main_arg7)
          ∧ r.2.mem ((c.tc : Thread Cert.MergeMlpSIdeal.nD Cert.MergeMlpSIdeal.τ).loc Cert.MergeMlpSIdeal.main_arg8) = m ((c.tc : Thread Cert.MergeMlpSIdeal.nD Cert.MergeMlpSIdeal.τ).loc Cert.MergeMlpSIdeal.main_arg8)
          ∧ r.2.mem ((c.tc : Thread Cert.MergeMlpSIdeal.nD Cert.MergeMlpSIdeal.τ).loc Cert.MergeMlpSIdeal.main_arg9) = m ((c.tc : Thread Cert.MergeMlpSIdeal.nD Cert.MergeMlpSIdeal.τ).loc Cert.MergeMlpSIdeal.main_arg9)
          ∧ r.2.mem ((c.tc : Thread Cert.MergeMlpSIdeal.nD Cert.MergeMlpSIdeal.τ).loc Cert.MergeMlpSIdeal.main_arg10) = m ((c.tc : Thread Cert.MergeMlpSIdeal.nD Cert.MergeMlpSIdeal.τ).loc Cert.MergeMlpSIdeal.main_arg10)
          ∧ r.2.mem ((c.tc : Thread Cert.MergeMlpSIdeal.nD Cert.MergeMlpSIdeal.τ).loc Cert.MergeMlpSIdeal.main_arg11) = m ((c.tc : Thread Cert.MergeMlpSIdeal.nD Cert.MergeMlpSIdeal.τ).loc Cert.MergeMlpSIdeal.main_arg11))
      ∧ θ_run (Cert.MergeMlpSRefIdeal.defs (F := Ideal)) (onTc (τ := Cert.MergeMlpSRefIdeal.τ) (Cert.MergeMlpSRefIdeal.main (F := Ideal))) ⟨m', fun _ => 0, g'⟩ (fun r => ∀ c : Dev Cert.MergeMlpSRefIdeal.nD,
          r.2.mem ((c.tc : Thread Cert.MergeMlpSRefIdeal.nD Cert.MergeMlpSRefIdeal.τ).loc Cert.MergeMlpSRefIdeal.main_v56) = v0 c
          ∧ r.2.mem ((c.tc : Thread Cert.MergeMlpSRefIdeal.nD Cert.MergeMlpSRefIdeal.τ).loc Cert.MergeMlpSRefIdeal.main_arg0) = m' ((c.tc : Thread Cert.MergeMlpSRefIdeal.nD Cert.MergeMlpSRefIdeal.τ).loc Cert.MergeMlpSRefIdeal.main_arg0)
          ∧ r.2.mem ((c.tc : Thread Cert.MergeMlpSRefIdeal.nD Cert.MergeMlpSRefIdeal.τ).loc Cert.MergeMlpSRefIdeal.main_arg1) = m' ((c.tc : Thread Cert.MergeMlpSRefIdeal.nD Cert.MergeMlpSRefIdeal.τ).loc Cert.MergeMlpSRefIdeal.main_arg1)
          ∧ r.2.mem ((c.tc : Thread Cert.MergeMlpSRefIdeal.nD Cert.MergeMlpSRefIdeal.τ).loc Cert.MergeMlpSRefIdeal.main_arg2) = m' ((c.tc : Thread Cert.MergeMlpSRefIdeal.nD Cert.MergeMlpSRefIdeal.τ).loc Cert.MergeMlpSRefIdeal.main_arg2)
          ∧ r.2.mem ((c.tc : Thread Cert.MergeMlpSRefIdeal.nD Cert.MergeMlpSRefIdeal.τ).loc Cert.MergeMlpSRefIdeal.main_arg3) = m' ((c.tc : Thread Cert.MergeMlpSRefIdeal.nD Cert.MergeMlpSRefIdeal.τ).loc Cert.MergeMlpSRefIdeal.main_arg3)
          ∧ r.2.mem ((c.tc : Thread Cert.MergeMlpSRefIdeal.nD Cert.MergeMlpSRefIdeal.τ).loc Cert.MergeMlpSRefIdeal.main_arg4) = m' ((c.tc : Thread Cert.MergeMlpSRefIdeal.nD Cert.MergeMlpSRefIdeal.τ).loc Cert.MergeMlpSRefIdeal.main_arg4)
          ∧ r.2.mem ((c.tc : Thread Cert.MergeMlpSRefIdeal.nD Cert.MergeMlpSRefIdeal.τ).loc Cert.MergeMlpSRefIdeal.main_arg5) = m' ((c.tc : Thread Cert.MergeMlpSRefIdeal.nD Cert.MergeMlpSRefIdeal.τ).loc Cert.MergeMlpSRefIdeal.main_arg5)
          ∧ r.2.mem ((c.tc : Thread Cert.MergeMlpSRefIdeal.nD Cert.MergeMlpSRefIdeal.τ).loc Cert.MergeMlpSRefIdeal.main_arg6) = m' ((c.tc : Thread Cert.MergeMlpSRefIdeal.nD Cert.MergeMlpSRefIdeal.τ).loc Cert.MergeMlpSRefIdeal.main_arg6)
          ∧ r.2.mem ((c.tc : Thread Cert.MergeMlpSRefIdeal.nD Cert.MergeMlpSRefIdeal.τ).loc Cert.MergeMlpSRefIdeal.main_arg7) = m' ((c.tc : Thread Cert.MergeMlpSRefIdeal.nD Cert.MergeMlpSRefIdeal.τ).loc Cert.MergeMlpSRefIdeal.main_arg7)
          ∧ r.2.mem ((c.tc : Thread Cert.MergeMlpSRefIdeal.nD Cert.MergeMlpSRefIdeal.τ).loc Cert.MergeMlpSRefIdeal.main_arg8) = m' ((c.tc : Thread Cert.MergeMlpSRefIdeal.nD Cert.MergeMlpSRefIdeal.τ).loc Cert.MergeMlpSRefIdeal.main_arg8)
          ∧ r.2.mem ((c.tc : Thread Cert.MergeMlpSRefIdeal.nD Cert.MergeMlpSRefIdeal.τ).loc Cert.MergeMlpSRefIdeal.main_arg9) = m' ((c.tc : Thread Cert.MergeMlpSRefIdeal.nD Cert.MergeMlpSRefIdeal.τ).loc Cert.MergeMlpSRefIdeal.main_arg9)
          ∧ r.2.mem ((c.tc : Thread Cert.MergeMlpSRefIdeal.nD Cert.MergeMlpSRefIdeal.τ).loc Cert.MergeMlpSRefIdeal.main_arg10) = m' ((c.tc : Thread Cert.MergeMlpSRefIdeal.nD Cert.MergeMlpSRefIdeal.τ).loc Cert.MergeMlpSRefIdeal.main_arg10)
          ∧ r.2.mem ((c.tc : Thread Cert.MergeMlpSRefIdeal.nD Cert.MergeMlpSRefIdeal.τ).loc Cert.MergeMlpSRefIdeal.main_arg11) = m' ((c.tc : Thread Cert.MergeMlpSRefIdeal.nD Cert.MergeMlpSRefIdeal.τ).loc Cert.MergeMlpSRefIdeal.main_arg11))

def preserves_DeltaStep_DeltaStepIdeal : Prop :=
  True

def algebraic_DeltaStepIdeal_DeltaStepRefIdeal [hDeltaStepIdeal : Cert.DeltaStepIdeal.Facts] [hDeltaStepRefIdeal : Cert.DeltaStepRefIdeal.Facts] : Prop :=
  ∀ (m : (ℓ : Loc Cert.DeltaStepIdeal.nD Cert.DeltaStepIdeal.τ Cert.DeltaStepIdeal.sig) → Buf (Elt Ideal) ℓ) (g : Dev Cert.DeltaStepIdeal.nD → PrngReg)
    (m' : (ℓ : Loc Cert.DeltaStepRefIdeal.nD Cert.DeltaStepRefIdeal.τ Cert.DeltaStepRefIdeal.sig) → Buf (Elt Ideal) ℓ) (g' : Dev Cert.DeltaStepRefIdeal.nD → PrngReg), Pre_DeltaStepIdeal m →
    (∀ c : Dev Cert.DeltaStepIdeal.nD,
      m' ((c.tc : Thread Cert.DeltaStepRefIdeal.nD Cert.DeltaStepRefIdeal.τ).loc Cert.DeltaStepRefIdeal.main_arg0) = m ((c.tc : Thread Cert.DeltaStepIdeal.nD Cert.DeltaStepIdeal.τ).loc Cert.DeltaStepIdeal.main_arg0)
      ∧ m' ((c.tc : Thread Cert.DeltaStepRefIdeal.nD Cert.DeltaStepRefIdeal.τ).loc Cert.DeltaStepRefIdeal.main_arg1) = m ((c.tc : Thread Cert.DeltaStepIdeal.nD Cert.DeltaStepIdeal.τ).loc Cert.DeltaStepIdeal.main_arg1)
      ∧ m' ((c.tc : Thread Cert.DeltaStepRefIdeal.nD Cert.DeltaStepRefIdeal.τ).loc Cert.DeltaStepRefIdeal.main_arg2) = m ((c.tc : Thread Cert.DeltaStepIdeal.nD Cert.DeltaStepIdeal.τ).loc Cert.DeltaStepIdeal.main_arg2)
      ∧ m' ((c.tc : Thread Cert.DeltaStepRefIdeal.nD Cert.DeltaStepRefIdeal.τ).loc Cert.DeltaStepRefIdeal.main_arg3) = m ((c.tc : Thread Cert.DeltaStepIdeal.nD Cert.DeltaStepIdeal.τ).loc Cert.DeltaStepIdeal.main_arg3)
      ∧ m' ((c.tc : Thread Cert.DeltaStepRefIdeal.nD Cert.DeltaStepRefIdeal.τ).loc Cert.DeltaStepRefIdeal.main_arg4) = m ((c.tc : Thread Cert.DeltaStepIdeal.nD Cert.DeltaStepIdeal.τ).loc Cert.DeltaStepIdeal.main_arg4)
      ∧ m' ((c.tc : Thread Cert.DeltaStepRefIdeal.nD Cert.DeltaStepRefIdeal.τ).loc Cert.DeltaStepRefIdeal.main_arg5) = m ((c.tc : Thread Cert.DeltaStepIdeal.nD Cert.DeltaStepIdeal.τ).loc Cert.DeltaStepIdeal.main_arg5)
      ∧ m' ((c.tc : Thread Cert.DeltaStepRefIdeal.nD Cert.DeltaStepRefIdeal.τ).loc Cert.DeltaStepRefIdeal.main_arg6) = m ((c.tc : Thread Cert.DeltaStepIdeal.nD Cert.DeltaStepIdeal.τ).loc Cert.DeltaStepIdeal.main_arg6)
      ∧ m' ((c.tc : Thread Cert.DeltaStepRefIdeal.nD Cert.DeltaStepRefIdeal.τ).loc Cert.DeltaStepRefIdeal.main_arg7) = m ((c.tc : Thread Cert.DeltaStepIdeal.nD Cert.DeltaStepIdeal.τ).loc Cert.DeltaStepIdeal.main_arg7)
      ∧ m' ((c.tc : Thread Cert.DeltaStepRefIdeal.nD Cert.DeltaStepRefIdeal.τ).loc Cert.DeltaStepRefIdeal.main_arg8) = m ((c.tc : Thread Cert.DeltaStepIdeal.nD Cert.DeltaStepIdeal.τ).loc Cert.DeltaStepIdeal.main_arg8)) →
    ∃ (v0 : (c : Dev Cert.DeltaStepIdeal.nD) → Buf (Elt Ideal) ((c.tc : Thread Cert.DeltaStepIdeal.nD Cert.DeltaStepIdeal.τ).loc Cert.DeltaStepIdeal.main_v4_0)) (v1 : (c : Dev Cert.DeltaStepIdeal.nD) → Buf (Elt Ideal) ((c.tc : Thread Cert.DeltaStepIdeal.nD Cert.DeltaStepIdeal.τ).loc Cert.DeltaStepIdeal.main_v4_1)) (v2 : (c : Dev Cert.DeltaStepIdeal.nD) → Buf (Elt Ideal) ((c.tc : Thread Cert.DeltaStepIdeal.nD Cert.DeltaStepIdeal.τ).loc Cert.DeltaStepIdeal.main_v4_2)),
      θ_run (Cert.DeltaStepIdeal.defs (F := Ideal)) (onTc (τ := Cert.DeltaStepIdeal.τ) (Cert.DeltaStepIdeal.main (F := Ideal))) ⟨m, fun _ => 0, g⟩ (fun r => ∀ c : Dev Cert.DeltaStepIdeal.nD,
          r.2.mem ((c.tc : Thread Cert.DeltaStepIdeal.nD Cert.DeltaStepIdeal.τ).loc Cert.DeltaStepIdeal.main_v4_0) = v0 c
          ∧ r.2.mem ((c.tc : Thread Cert.DeltaStepIdeal.nD Cert.DeltaStepIdeal.τ).loc Cert.DeltaStepIdeal.main_v4_1) = v1 c
          ∧ r.2.mem ((c.tc : Thread Cert.DeltaStepIdeal.nD Cert.DeltaStepIdeal.τ).loc Cert.DeltaStepIdeal.main_v4_2) = v2 c
          ∧ r.2.mem ((c.tc : Thread Cert.DeltaStepIdeal.nD Cert.DeltaStepIdeal.τ).loc Cert.DeltaStepIdeal.main_arg0) = m ((c.tc : Thread Cert.DeltaStepIdeal.nD Cert.DeltaStepIdeal.τ).loc Cert.DeltaStepIdeal.main_arg0)
          ∧ r.2.mem ((c.tc : Thread Cert.DeltaStepIdeal.nD Cert.DeltaStepIdeal.τ).loc Cert.DeltaStepIdeal.main_arg1) = m ((c.tc : Thread Cert.DeltaStepIdeal.nD Cert.DeltaStepIdeal.τ).loc Cert.DeltaStepIdeal.main_arg1)
          ∧ r.2.mem ((c.tc : Thread Cert.DeltaStepIdeal.nD Cert.DeltaStepIdeal.τ).loc Cert.DeltaStepIdeal.main_arg2) = m ((c.tc : Thread Cert.DeltaStepIdeal.nD Cert.DeltaStepIdeal.τ).loc Cert.DeltaStepIdeal.main_arg2)
          ∧ r.2.mem ((c.tc : Thread Cert.DeltaStepIdeal.nD Cert.DeltaStepIdeal.τ).loc Cert.DeltaStepIdeal.main_arg3) = m ((c.tc : Thread Cert.DeltaStepIdeal.nD Cert.DeltaStepIdeal.τ).loc Cert.DeltaStepIdeal.main_arg3)
          ∧ r.2.mem ((c.tc : Thread Cert.DeltaStepIdeal.nD Cert.DeltaStepIdeal.τ).loc Cert.DeltaStepIdeal.main_arg4) = m ((c.tc : Thread Cert.DeltaStepIdeal.nD Cert.DeltaStepIdeal.τ).loc Cert.DeltaStepIdeal.main_arg4)
          ∧ r.2.mem ((c.tc : Thread Cert.DeltaStepIdeal.nD Cert.DeltaStepIdeal.τ).loc Cert.DeltaStepIdeal.main_arg5) = m ((c.tc : Thread Cert.DeltaStepIdeal.nD Cert.DeltaStepIdeal.τ).loc Cert.DeltaStepIdeal.main_arg5)
          ∧ r.2.mem ((c.tc : Thread Cert.DeltaStepIdeal.nD Cert.DeltaStepIdeal.τ).loc Cert.DeltaStepIdeal.main_arg6) = m ((c.tc : Thread Cert.DeltaStepIdeal.nD Cert.DeltaStepIdeal.τ).loc Cert.DeltaStepIdeal.main_arg6)
          ∧ r.2.mem ((c.tc : Thread Cert.DeltaStepIdeal.nD Cert.DeltaStepIdeal.τ).loc Cert.DeltaStepIdeal.main_arg7) = m ((c.tc : Thread Cert.DeltaStepIdeal.nD Cert.DeltaStepIdeal.τ).loc Cert.DeltaStepIdeal.main_arg7)
          ∧ r.2.mem ((c.tc : Thread Cert.DeltaStepIdeal.nD Cert.DeltaStepIdeal.τ).loc Cert.DeltaStepIdeal.main_arg8) = m ((c.tc : Thread Cert.DeltaStepIdeal.nD Cert.DeltaStepIdeal.τ).loc Cert.DeltaStepIdeal.main_arg8))
      ∧ θ_run (Cert.DeltaStepRefIdeal.defs (F := Ideal)) (onTc (τ := Cert.DeltaStepRefIdeal.τ) (Cert.DeltaStepRefIdeal.main (F := Ideal))) ⟨m', fun _ => 0, g'⟩ (fun r => ∀ c : Dev Cert.DeltaStepRefIdeal.nD,
          r.2.mem ((c.tc : Thread Cert.DeltaStepRefIdeal.nD Cert.DeltaStepRefIdeal.τ).loc Cert.DeltaStepRefIdeal.main_v106) = v0 c
          ∧ r.2.mem ((c.tc : Thread Cert.DeltaStepRefIdeal.nD Cert.DeltaStepRefIdeal.τ).loc Cert.DeltaStepRefIdeal.main_v87) = v1 c
          ∧ r.2.mem ((c.tc : Thread Cert.DeltaStepRefIdeal.nD Cert.DeltaStepRefIdeal.τ).loc Cert.DeltaStepRefIdeal.main_v33) = v2 c
          ∧ r.2.mem ((c.tc : Thread Cert.DeltaStepRefIdeal.nD Cert.DeltaStepRefIdeal.τ).loc Cert.DeltaStepRefIdeal.main_arg0) = m' ((c.tc : Thread Cert.DeltaStepRefIdeal.nD Cert.DeltaStepRefIdeal.τ).loc Cert.DeltaStepRefIdeal.main_arg0)
          ∧ r.2.mem ((c.tc : Thread Cert.DeltaStepRefIdeal.nD Cert.DeltaStepRefIdeal.τ).loc Cert.DeltaStepRefIdeal.main_arg1) = m' ((c.tc : Thread Cert.DeltaStepRefIdeal.nD Cert.DeltaStepRefIdeal.τ).loc Cert.DeltaStepRefIdeal.main_arg1)
          ∧ r.2.mem ((c.tc : Thread Cert.DeltaStepRefIdeal.nD Cert.DeltaStepRefIdeal.τ).loc Cert.DeltaStepRefIdeal.main_arg2) = m' ((c.tc : Thread Cert.DeltaStepRefIdeal.nD Cert.DeltaStepRefIdeal.τ).loc Cert.DeltaStepRefIdeal.main_arg2)
          ∧ r.2.mem ((c.tc : Thread Cert.DeltaStepRefIdeal.nD Cert.DeltaStepRefIdeal.τ).loc Cert.DeltaStepRefIdeal.main_arg3) = m' ((c.tc : Thread Cert.DeltaStepRefIdeal.nD Cert.DeltaStepRefIdeal.τ).loc Cert.DeltaStepRefIdeal.main_arg3)
          ∧ r.2.mem ((c.tc : Thread Cert.DeltaStepRefIdeal.nD Cert.DeltaStepRefIdeal.τ).loc Cert.DeltaStepRefIdeal.main_arg4) = m' ((c.tc : Thread Cert.DeltaStepRefIdeal.nD Cert.DeltaStepRefIdeal.τ).loc Cert.DeltaStepRefIdeal.main_arg4)
          ∧ r.2.mem ((c.tc : Thread Cert.DeltaStepRefIdeal.nD Cert.DeltaStepRefIdeal.τ).loc Cert.DeltaStepRefIdeal.main_arg5) = m' ((c.tc : Thread Cert.DeltaStepRefIdeal.nD Cert.DeltaStepRefIdeal.τ).loc Cert.DeltaStepRefIdeal.main_arg5)
          ∧ r.2.mem ((c.tc : Thread Cert.DeltaStepRefIdeal.nD Cert.DeltaStepRefIdeal.τ).loc Cert.DeltaStepRefIdeal.main_arg6) = m' ((c.tc : Thread Cert.DeltaStepRefIdeal.nD Cert.DeltaStepRefIdeal.τ).loc Cert.DeltaStepRefIdeal.main_arg6)
          ∧ r.2.mem ((c.tc : Thread Cert.DeltaStepRefIdeal.nD Cert.DeltaStepRefIdeal.τ).loc Cert.DeltaStepRefIdeal.main_arg7) = m' ((c.tc : Thread Cert.DeltaStepRefIdeal.nD Cert.DeltaStepRefIdeal.τ).loc Cert.DeltaStepRefIdeal.main_arg7)
          ∧ r.2.mem ((c.tc : Thread Cert.DeltaStepRefIdeal.nD Cert.DeltaStepRefIdeal.τ).loc Cert.DeltaStepRefIdeal.main_arg8) = m' ((c.tc : Thread Cert.DeltaStepRefIdeal.nD Cert.DeltaStepRefIdeal.τ).loc Cert.DeltaStepRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v54_1)) (v1 : (c : Dev Cert.InProjIdeal.nD) → Buf (Elt Ideal) ((c.tc : Thread Cert.InProjIdeal.nD Cert.InProjIdeal.τ).loc Cert.InProjIdeal.main_v54_2)) (v2 : (c : Dev Cert.InProjIdeal.nD) → Buf (Elt Ideal) ((c.tc : Thread Cert.InProjIdeal.nD Cert.InProjIdeal.τ).loc Cert.InProjIdeal.main_v54_3)) (v3 : (c : Dev Cert.InProjIdeal.nD) → Buf (Elt Ideal) ((c.tc : Thread Cert.InProjIdeal.nD Cert.InProjIdeal.τ).loc Cert.InProjIdeal.main_v54_4)) (v4 : (c : Dev Cert.InProjIdeal.nD) → Buf (Elt Ideal) ((c.tc : Thread Cert.InProjIdeal.nD Cert.InProjIdeal.τ).loc Cert.InProjIdeal.main_v54_5)) (v5 : (c : Dev Cert.InProjIdeal.nD) → Buf (Elt Ideal) ((c.tc : Thread Cert.InProjIdeal.nD Cert.InProjIdeal.τ).loc Cert.InProjIdeal.main_v54_6)) (v6 : (c : Dev Cert.InProjIdeal.nD) → Buf (Elt Ideal) ((c.tc : Thread Cert.InProjIdeal.nD Cert.InProjIdeal.τ).loc Cert.InProjIdeal.main_v54_7)) (v7 : (c : Dev Cert.InProjIdeal.nD) → Buf (Elt Ideal) ((c.tc : Thread Cert.InProjIdeal.nD Cert.InProjIdeal.τ).loc Cert.InProjIdeal.main_v54_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v54_1) = v0 c
          ∧ r.2.mem ((c.tc : Thread Cert.InProjIdeal.nD Cert.InProjIdeal.τ).loc Cert.InProjIdeal.main_v54_2) = v1 c
          ∧ r.2.mem ((c.tc : Thread Cert.InProjIdeal.nD Cert.InProjIdeal.τ).loc Cert.InProjIdeal.main_v54_3) = v2 c
          ∧ r.2.mem ((c.tc : Thread Cert.InProjIdeal.nD Cert.InProjIdeal.τ).loc Cert.InProjIdeal.main_v54_4) = v3 c
          ∧ r.2.mem ((c.tc : Thread Cert.InProjIdeal.nD Cert.InProjIdeal.τ).loc Cert.InProjIdeal.main_v54_5) = v4 c
          ∧ r.2.mem ((c.tc : Thread Cert.InProjIdeal.nD Cert.InProjIdeal.τ).loc Cert.InProjIdeal.main_v54_6) = v5 c
          ∧ r.2.mem ((c.tc : Thread Cert.InProjIdeal.nD Cert.InProjIdeal.τ).loc Cert.InProjIdeal.main_v54_7) = v6 c
          ∧ r.2.mem ((c.tc : Thread Cert.InProjIdeal.nD Cert.InProjIdeal.τ).loc Cert.InProjIdeal.main_v54_8) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v60) = v0 c
          ∧ r.2.mem ((c.tc : Thread Cert.InProjRefIdeal.nD Cert.InProjRefIdeal.τ).loc Cert.InProjRefIdeal.main_v62) = v1 c
          ∧ r.2.mem ((c.tc : Thread Cert.InProjRefIdeal.nD Cert.InProjRefIdeal.τ).loc Cert.InProjRefIdeal.main_v64) = v2 c
          ∧ r.2.mem ((c.tc : Thread Cert.InProjRefIdeal.nD Cert.InProjRefIdeal.τ).loc Cert.InProjRefIdeal.main_v65) = v3 c
          ∧ r.2.mem ((c.tc : Thread Cert.InProjRefIdeal.nD Cert.InProjRefIdeal.τ).loc Cert.InProjRefIdeal.main_v66) = v4 c
          ∧ r.2.mem ((c.tc : Thread Cert.InProjRefIdeal.nD Cert.InProjRefIdeal.τ).loc Cert.InProjRefIdeal.main_v67) = v5 c
          ∧ r.2.mem ((c.tc : Thread Cert.InProjRefIdeal.nD Cert.InProjRefIdeal.τ).loc Cert.InProjRefIdeal.main_v68) = v6 c
          ∧ r.2.mem ((c.tc : Thread Cert.InProjRefIdeal.nD Cert.InProjRefIdeal.τ).loc Cert.InProjRefIdeal.main_v25) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hMergeMlp : Cert.MergeMlp.Facts) (hMergeMlpIdeal : Cert.MergeMlpIdeal.Facts) (hMergeMlpRefIdeal : Cert.MergeMlpRefIdeal.Facts) (hMergeMlpS : Cert.MergeMlpS.Facts) (hMergeMlpSIdeal : Cert.MergeMlpSIdeal.Facts) (hMergeMlpSRefIdeal : Cert.MergeMlpSRefIdeal.Facts) (hDeltaStep : Cert.DeltaStep.Facts) (hDeltaStepIdeal : Cert.DeltaStepIdeal.Facts) (hDeltaStepRefIdeal : Cert.DeltaStepRefIdeal.Facts) (hInProj : Cert.InProj.Facts) (hInProjIdeal : Cert.InProjIdeal.Facts) (hInProjRefIdeal : Cert.InProjRefIdeal.Facts),
    quiescent_MergeMlp (hMergeMlp := hMergeMlp)
    ∧ quiescent_MergeMlpIdeal (hMergeMlpIdeal := hMergeMlpIdeal)
    ∧ quiescent_MergeMlpRefIdeal (hMergeMlpRefIdeal := hMergeMlpRefIdeal)
    ∧ quiescent_MergeMlpS (hMergeMlpS := hMergeMlpS)
    ∧ quiescent_MergeMlpSIdeal (hMergeMlpSIdeal := hMergeMlpSIdeal)
    ∧ quiescent_MergeMlpSRefIdeal (hMergeMlpSRefIdeal := hMergeMlpSRefIdeal)
    ∧ quiescent_DeltaStep (hDeltaStep := hDeltaStep)
    ∧ quiescent_DeltaStepIdeal (hDeltaStepIdeal := hDeltaStepIdeal)
    ∧ quiescent_DeltaStepRefIdeal (hDeltaStepRefIdeal := hDeltaStepRefIdeal)
    ∧ quiescent_InProj (hInProj := hInProj)
    ∧ quiescent_InProjIdeal (hInProjIdeal := hInProjIdeal)
    ∧ quiescent_InProjRefIdeal (hInProjRefIdeal := hInProjRefIdeal)
    ∧ preserves_MergeMlp_MergeMlpIdeal
    ∧ algebraic_MergeMlpIdeal_MergeMlpRefIdeal (hMergeMlpIdeal := hMergeMlpIdeal) (hMergeMlpRefIdeal := hMergeMlpRefIdeal)
    ∧ preserves_MergeMlpS_MergeMlpSIdeal
    ∧ algebraic_MergeMlpSIdeal_MergeMlpSRefIdeal (hMergeMlpSIdeal := hMergeMlpSIdeal) (hMergeMlpSRefIdeal := hMergeMlpSRefIdeal)
    ∧ preserves_DeltaStep_DeltaStepIdeal
    ∧ algebraic_DeltaStepIdeal_DeltaStepRefIdeal (hDeltaStepIdeal := hDeltaStepIdeal) (hDeltaStepRefIdeal := hDeltaStepRefIdeal)
    ∧ preserves_InProj_InProjIdeal
    ∧ algebraic_InProjIdeal_InProjRefIdeal (hInProjIdeal := hInProjIdeal) (hInProjRefIdeal := hInProjRefIdeal)
-- ==== MergeMlp.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1024x4096, .bf16⟩
  | .hbm, ⟨10, _⟩ => ⟨S4096x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeMlpRefIdeal.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1024x4096, .bf16⟩
  | .hbm, ⟨10, _⟩ => ⟨S4096x1024, .bf16⟩
  | .hbm, ⟨11, _⟩ => ⟨S1024, .f32⟩
  | .hbm, ⟨12, _⟩ => ⟨S16384x512, .f32⟩
  | .hbm, ⟨13, _⟩ => ⟨S512x1024, .f32⟩
  | .hbm, ⟨14, _⟩ => ⟨S16384x1024, .f32⟩
  | .hbm, ⟨15, _⟩ => ⟨S16384x512, .f32⟩
  | .hbm, ⟨16, _⟩ => ⟨S512x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S16384x4096, .f32⟩
  | .hbm, ⟨62, _⟩ => ⟨S4096x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== MergeMlpS.lean ====
abbrev S32x1024 : Shape := ⟨2, ![32, 1024]⟩
abbrev S32x512 : Shape := ⟨2, ![32, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32 : Shape := ⟨1, ![32]⟩
abbrev S32x1 : Shape := ⟨2, ![32, 1]⟩

abbrev nBuf : Space → Nat
  | .hbm => 15
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x512, .bf16⟩
  | .hbm, ⟨3, _⟩ => ⟨S32x1024, .f32⟩
  | .hbm, ⟨4, _⟩ => ⟨S32x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1024x4096, .bf16⟩
  | .hbm, ⟨10, _⟩ => ⟨S4096x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S32x1024, .f32⟩
  | .local _ .vmem, ⟨0, _⟩ => ⟨S32x1024, .f32⟩
  | .local _ .vmem, ⟨1, _⟩ => ⟨S32x512, .bf16⟩
  | .local _ .vmem, ⟨2, _⟩ => ⟨S32x512, .bf16⟩
  | .local _ .vmem, ⟨3, _⟩ => ⟨S32x1024, .f32⟩
  | .local _ .vmem, ⟨4, _⟩ => ⟨S32x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== MergeMlpSRefIdeal.lean ====
abbrev S32x1024 : Shape := ⟨2, ![32, 1024]⟩
abbrev S32x512 : Shape := ⟨2, ![32, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4096 : Shape := ⟨2, ![32, 4096]⟩

abbrev nBuf : Space → Nat
  | .hbm => 81
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x512, .bf16⟩
  | .hbm, ⟨3, _⟩ => ⟨S32x1024, .f32⟩
  | .hbm, ⟨4, _⟩ => ⟨S32x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1024x4096, .bf16⟩
  | .hbm, ⟨10, _⟩ => ⟨S4096x1024, .bf16⟩
  | .hbm, ⟨11, _⟩ => ⟨S1024, .f32⟩
  | .hbm, ⟨12, _⟩ => ⟨S32x512, .f32⟩
  | .hbm, ⟨13, _⟩ => ⟨S512x1024, .f32⟩
  | .hbm, ⟨14, _⟩ => ⟨S32x1024, .f32⟩
  | .hbm, ⟨15, _⟩ => ⟨S32x512, .f32⟩
  | .hbm, ⟨16, _⟩ => ⟨S512x1024, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S_, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S_, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S1024x1024, .f32⟩
  | .hbm, ⟨38, _⟩ => ⟨S32x1024, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x1024, .f32⟩
  | .hbm, ⟨52, _⟩ => ⟨S32x1024, .f32⟩
  | .hbm, ⟨53, _⟩ => ⟨S1x1024, .f32⟩
  | .hbm, ⟨54, _⟩ => ⟨S32x1024, .f32⟩
  | .hbm, ⟨55, _⟩ => ⟨S32x1024, .f32⟩
  | .hbm, ⟨56, _⟩ => ⟨S1024x4096, .f32⟩
  | .hbm, ⟨57, _⟩ => ⟨S32x4096, .f32⟩
  | .hbm, ⟨58, _⟩ => ⟨S_, .f32⟩
  | .hbm, ⟨59, _⟩ => ⟨S32x4096, .f32⟩
  | .hbm, ⟨60, _⟩ => ⟨S32x4096, .f32⟩
  | .hbm, ⟨61, _⟩ => ⟨S32x4096, .f32⟩
  | .hbm, ⟨62, _⟩ => ⟨S4096x1024, .f32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S_, .f32⟩
  | .hbm, ⟨67, _⟩ => ⟨S32, .f32⟩
  | .hbm, ⟨68, _⟩ => ⟨S32x1, .f32⟩
  | .hbm, ⟨69, _⟩ => ⟨S_, .f32⟩
  | .hbm, ⟨70, _⟩ => ⟨S32x1, .f32⟩
  | .hbm, ⟨71, _⟩ => ⟨S32x1, .f32⟩
  | .hbm, ⟨72, _⟩ => ⟨S_, .f32⟩
  | .hbm, ⟨73, _⟩ => ⟨S32x1, .f32⟩
  | .hbm, ⟨74, _⟩ => ⟨S32x1, .f32⟩
  | .hbm, ⟨75, _⟩ => ⟨S32x1, .f32⟩
  | .hbm, ⟨76, _⟩ => ⟨S32x1024, .f32⟩
  | .hbm, ⟨77, _⟩ => ⟨S32x1024, .f32⟩
  | .hbm, ⟨78, _⟩ => ⟨S1x1024, .f32⟩
  | .hbm, ⟨79, _⟩ => ⟨S32x1024, .f32⟩
  | .hbm, ⟨80, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== DeltaStep.lean ====
abbrev S32x1536 : Shape := ⟨2, ![32, 1536]⟩
abbrev S32x512 : Shape := ⟨2, ![32, 512]⟩
abbrev S32x128 : Shape := ⟨2, ![32, 128]⟩
abbrev S32x3x1536 : Shape := ⟨3, ![32, 3, 1536]⟩
abbrev S4x1536 : Shape := ⟨2, ![4, 1536]⟩
abbrev S32x4x128x128 : Shape := ⟨4, ![32, 4, 128, 128]⟩
abbrev S4 : Shape := ⟨1, ![4]⟩
abbrev S128 : Shape := ⟨1, ![128]⟩
abbrev S32x1x1536 : Shape := ⟨3, ![32, 1, 1536]⟩
abbrev S32x1x512 : Shape := ⟨3, ![32, 1, 512]⟩
abbrev S32x1x128 : Shape := ⟨3, ![32, 1, 128]⟩
abbrev S1x128 : Shape := ⟨2, ![1, 128]⟩
abbrev S2x1x1536 : Shape := ⟨3, ![2, 1, 1536]⟩
abbrev S2x1x512 : Shape := ⟨3, ![2, 1, 512]⟩
abbrev S2x1x128 : Shape := ⟨3, ![2, 1, 128]⟩
abbrev S2x3x1536 : Shape := ⟨3, ![2, 3, 1536]⟩
abbrev S2x4x128x128 : Shape := ⟨4, ![2, 4, 128, 128]⟩
abbrev S1x1x1536 : Shape := ⟨3, ![1, 1, 1536]⟩
abbrev S1x1536 : Shape := ⟨2, ![1, 1536]⟩
abbrev S1x3x1536 : Shape := ⟨3, ![1, 3, 1536]⟩
abbrev S3x1536 : Shape := ⟨2, ![3, 1536]⟩
abbrev S2x1536 : Shape := ⟨2, ![2, 1536]⟩
abbrev S1x2x1536 : Shape := ⟨3, ![1, 2, 1536]⟩
abbrev S128x128 : Shape := ⟨2, ![128, 128]⟩
abbrev S1 : Shape := ⟨1, ![1]⟩
abbrev S1x1 : Shape := ⟨2, ![1, 1]⟩
abbrev S1x1x128 : Shape := ⟨3, ![1, 1, 128]⟩
abbrev S1x1x128x128 : Shape := ⟨4, ![1, 1, 128, 128]⟩
abbrev S8x128 : Shape := ⟨2, ![8, 128]⟩
abbrev S1x1x512 : Shape := ⟨3, ![1, 1, 512]⟩
abbrev S1x512 : Shape := ⟨2, ![1, 512]⟩

abbrev nBuf : Space → Nat
  | .hbm => 16
  | .vmem => 18
  | .smem => 2
  | _ => 0

abbrev bufTy : (tb : Table) → Fin (tcTables nBuf tb) → BufTy
  | .hbm, ⟨0, _⟩ => ⟨S32x1536, .f32⟩
  | .hbm, ⟨1, _⟩ => ⟨S32x512, .f32⟩
  | .hbm, ⟨2, _⟩ => ⟨S32x128, .f32⟩
  | .hbm, ⟨3, _⟩ => ⟨S32x3x1536, .f32⟩
  | .hbm, ⟨4, _⟩ => ⟨S4x1536, .f32⟩
  | .hbm, ⟨5, _⟩ => ⟨S32x4x128x128, .f32⟩
  | .hbm, ⟨6, _⟩ => ⟨S4, .f32⟩
  | .hbm, ⟨7, _⟩ => ⟨S4, .f32⟩
  | .hbm, ⟨8, _⟩ => ⟨S128, .f32⟩
  | .hbm, ⟨9, _⟩ => ⟨S32x1x1536, .f32⟩
  | .hbm, ⟨10, _⟩ => ⟨S32x1x512, .f32⟩
  | .hbm, ⟨11, _⟩ => ⟨S32x1x128, .f32⟩
  | .hbm, ⟨12, _⟩ => ⟨S1x128, .f32⟩
  | .hbm, ⟨13, _⟩ => ⟨S32x1x512, .bf16⟩
  | .hbm, ⟨14, _⟩ => ⟨S32x4x128x128, .f32⟩
  | .hbm, ⟨15, _⟩ => ⟨S32x3x1536, .f32⟩
  | .local _ .vmem, ⟨0, _⟩ => ⟨S2x1x1536, .f32⟩
  | .local _ .vmem, ⟨1, _⟩ => ⟨S2x1x1536, .f32⟩
  | .local _ .vmem, ⟨2, _⟩ => ⟨S2x1x512, .f32⟩
  | .local _ .vmem, ⟨3, _⟩ => ⟨S2x1x512, .f32⟩
  | .local _ .vmem, ⟨4, _⟩ => ⟨S2x1x128, .f32⟩
  | .local _ .vmem, ⟨5, _⟩ => ⟨S2x1x128, .f32⟩
  | .local _ .vmem, ⟨6, _⟩ => ⟨S2x3x1536, .f32⟩
  | .local _ .vmem, ⟨7, _⟩ => ⟨S2x3x1536, .f32⟩
  | .local _ .vmem, ⟨8, _⟩ => ⟨S4x1536, .f32⟩
  | .local _ .vmem, ⟨9, _⟩ => ⟨S2x4x128x128, .f32⟩
  | .local _ .vmem, ⟨10, _⟩ => ⟨S2x4x128x128, .f32⟩
  | .local _ .vmem, ⟨11, _⟩ => ⟨S1x128, .f32⟩
  | .local _ .vmem, ⟨12, _⟩ => ⟨S2x1x512, .bf16⟩
  | .local _ .vmem, ⟨13, _⟩ => ⟨S2x1x512, .bf16⟩
  | .local _ .vmem, ⟨14, _⟩ => ⟨S2x4x128x128, .f32⟩
  | .local _ .vmem, ⟨15, _⟩ => ⟨S2x4x128x128, .f32⟩
  | .local _ .vmem, ⟨16, _⟩ => ⟨S2x3x1536, .f32⟩
  | .local _ .vmem, ⟨17, _⟩ => ⟨S2x3x1536, .f32⟩
  | .local _ .smem, ⟨0, _⟩ => ⟨S4, .f32⟩
  | .local _ .smem, ⟨1, _⟩ => ⟨S4, .f32⟩
  | _, _ => ⟨S32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DeltaStepRefIdeal.lean ====
abbrev S32x1536 : Shape := ⟨2, ![32, 1536]⟩
abbrev S32x512 : Shape := ⟨2, ![32, 512]⟩
abbrev S32x128 : Shape := ⟨2, ![32, 128]⟩
abbrev S32x3x1536 : Shape := ⟨3, ![32, 3, 1536]⟩
abbrev S4x1536 : Shape := ⟨2, ![4, 1536]⟩
abbrev S32x4x128x128 : Shape := ⟨4, ![32, 4, 128, 128]⟩
abbrev S4 : Shape := ⟨1, ![4]⟩
abbrev S128 : Shape := ⟨1, ![128]⟩
abbrev S32x1x1536 : Shape := ⟨3, ![32, 1, 1536]⟩
abbrev S32x4 : Shape := ⟨2, ![32, 4]⟩
abbrev S32x4x1536 : Shape := ⟨3, ![32, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x4x128 : Shape := ⟨3, ![32, 4, 128]⟩
abbrev S32x4x1 : Shape := ⟨3, ![32, 4, 1]⟩
abbrev S1x4 : Shape := ⟨2, ![1, 4]⟩
abbrev S32x4x1x1 : Shape := ⟨4, ![32, 4, 1, 1]⟩
abbrev S32x4x128x1 : Shape := ⟨4, ![32, 4, 128, 1]⟩
abbrev S32x4x1x128 : Shape := ⟨4, ![32, 4, 1, 128]⟩
abbrev S1x1x128 : Shape := ⟨3, ![1, 1, 128]⟩
abbrev S32x1x512 : Shape := ⟨3, ![32, 1, 512]⟩

abbrev nBuf : Space → Nat
  | .hbm => 155
  | .vmem => 0
  | .smem => 0
  | _ => 0

abbrev hbmTy0_0 (i : Nat) : BufTy := match i % 128 with
  | 0 => ⟨S32x1536, .f32⟩
  | 1 => ⟨S32x512, .f32⟩
  | 2 => ⟨S32x128, .f32⟩
  | 3 => ⟨S32x3x1536, .f32⟩
  | 4 => ⟨S4x1536, .f32⟩
  | 5 => ⟨S32x4x128x128, .f32⟩
  | 6 => ⟨S4, .f32⟩
  | 7 => ⟨S4, .f32⟩
  | 8 => ⟨S128, .f32⟩
  | 9 => ⟨S32x1x1536, .f32⟩
  | 10 => ⟨S32x4, .f32⟩
  | 11 => ⟨S32x4, .f32⟩
  | 12 => ⟨S32x4x1536, .f32⟩
  | 13 => ⟨S32x1x1536, .f32⟩
  | 14 => ⟨S1x1536, .f32⟩
  | 15 => ⟨S1536, .f32⟩
  | 16 => ⟨S1x1x1536, .f32⟩
  | 17 => ⟨S32x1x1536, .f32⟩
  | 18 => ⟨S32x1x1536, .f32⟩
  | 19 => ⟨S32x1x1536, .f32⟩
  | 20 => ⟨S1x1536, .f32⟩
  | 21 => ⟨S1536, .f32⟩
  | 22 => ⟨S1x1x1536, .f32⟩
  | 23 => ⟨S32x1x1536, .f32⟩
  | 24 => ⟨S32x1x1536, .f32⟩
  | 25 => ⟨S32x1x1536, .f32⟩
  | 26 => ⟨S32x1x1536, .f32⟩
  | 27 => ⟨S1x1536, .f32⟩
  | 28 => ⟨S1536, .f32⟩
  | 29 => ⟨S1x1x1536, .f32⟩
  | 30 => ⟨S32x1x1536, .f32⟩
  | 31 => ⟨S32x1x1536, .f32⟩
  | 32 => ⟨S32x1x1536, .f32⟩
  | 33 => ⟨S32x1x1536, .f32⟩
  | 34 => ⟨S1x1536, .f32⟩
  | 35 => ⟨S1536, .f32⟩
  | 36 => ⟨S1x1x1536, .f32⟩
  | 37 => ⟨S32x1x1536, .f32⟩
  | 38 => ⟨S32x1x1536, .f32⟩
  | 39 => ⟨S32x1x1536, .f32⟩
  | 40 => ⟨S32x1x1536, .f32⟩
  | 41 => ⟨S32x1x1536, .f32⟩
  | 42 => ⟨S_, .f32⟩
  | 43 => ⟨S32x1x1536, .f32⟩
  | 44 => ⟨S32x1x1536, .f32⟩
  | 45 => ⟨S_, .f32⟩
  | 46 => ⟨S32x1x1536, .f32⟩
  | 47 => ⟨S32x1x1536, .f32⟩
  | 48 => ⟨S32x1x1536, .f32⟩
  | 49 => ⟨S32x1536, .f32⟩
  | 50 => ⟨S32x3x1536, .f32⟩
  | 51 => ⟨S32x512, .f32⟩
  | 52 => ⟨S32x4x128, .f32⟩
  | 53 => ⟨S32x4x128, .f32⟩
  | 54 => ⟨S_, .f32⟩
  | 55 => ⟨S32x4, .f32⟩
  | 56 => ⟨S32x4x1, .f32⟩
  | 57 => ⟨S_, .f32⟩
  | 58 => ⟨S32x4x1, .f32⟩
  | 59 => ⟨S32x4x1, .f32⟩
  | 60 => ⟨S32x4x1, .f32⟩
  | 61 => ⟨S32x4x128, .f32⟩
  | 62 => ⟨S32x4x128, .f32⟩
  | 63 => ⟨S_, .f32⟩
  | 64 => ⟨S32x4x128, .f32⟩
  | 65 => ⟨S32x4x128, .f32⟩
  | 66 => ⟨S32x512, .f32⟩
  | 67 => ⟨S32x4x128, .f32⟩
  | 68 => ⟨S32x4x128, .f32⟩
  | 69 => ⟨S_, .f32⟩
  | 70 => ⟨S32x4, .f32⟩
  | 71 => ⟨S32x4x1, .f32⟩
  | 72 => ⟨S_, .f32⟩
  | 73 => ⟨S32x4x1, .f32⟩
  | 74 => ⟨S32x4x1, .f32⟩
  | 75 => ⟨S32x4x1, .f32⟩
  | 76 => ⟨S32x4x128, .f32⟩
  | 77 => ⟨S32x4x128, .f32⟩
  | 78 => ⟨S32x512, .f32⟩
  | 79 => ⟨S32x4x128, .f32⟩
  | 80 => ⟨S32x4, .f32⟩
  | 81 => ⟨S32x4, .f32⟩
  | 82 => ⟨S_, .f32⟩
  | 83 => ⟨S32x4, .f32⟩
  | 84 => ⟨S32x4, .f32⟩
  | 85 => ⟨S_, .f32⟩
  | 86 => ⟨S32x4, .f32⟩
  | 87 => ⟨S32x4, .f32⟩
  | 88 => ⟨S4, .f32⟩
  | 89 => ⟨S4, .f32⟩
  | 90 => ⟨S1x4, .f32⟩
  | 91 => ⟨S32x4, .f32⟩
  | 92 => ⟨S32x4, .f32⟩
  | 93 => ⟨S_, .f32⟩
  | 94 => ⟨S32x4, .f32⟩
  | 95 => ⟨S32x4, .f32⟩
  | 96 => ⟨S32x4, .f32⟩
  | 97 => ⟨S32x4, .f32⟩
  | 98 => ⟨S32x4, .i1⟩
  | 99 => ⟨S32x4, .f32⟩
  | 100 => ⟨S32x4, .f32⟩
  | 101 => ⟨S32x4, .f32⟩
  | 102 => ⟨S32x4, .f32⟩
  | 103 => ⟨S32x4, .f32⟩
  | 104 => ⟨S32x4, .f32⟩
  | 105 => ⟨S32x4, .f32⟩
  | 106 => ⟨S32x4, .f32⟩
  | 107 => ⟨S1x4, .f32⟩
  | 108 => ⟨S32x4, .f32⟩
  | 109 => ⟨S32x4, .f32⟩
  | 110 => ⟨S32x4, .f32⟩
  | 111 => ⟨S32x4x1x1, .f32⟩
  | 112 => ⟨S32x4x128x128, .f32⟩
  | 113 => ⟨S32x4x128x128, .f32⟩
  | 114 => ⟨S32x4x128, .f32⟩
  | 115 => ⟨S32x4x128x1, .f32⟩
  | 116 => ⟨S32x4x128, .f32⟩
  | 117 => ⟨S32x4x1, .f32⟩
  | 118 => ⟨S32x4x128, .f32⟩
  | 119 => ⟨S32x4x128, .f32⟩
  | 120 => ⟨S32x4x1x128, .f32⟩
  | 121 => ⟨S32x4x128x128, .f32⟩
  | 122 => ⟨S32x4x128x128, .f32⟩
  | 123 => ⟨S32x4x128x128, .f32⟩
  | 124 => ⟨S32x4x128x128, .f32⟩
  | 125 => ⟨S32x4x128, .f32⟩
  | 126 => ⟨S32x4x128, .f32⟩
  | 127 => ⟨S_, .f32⟩
  | _ => ⟨S32x1536, .f32⟩

abbrev hbmTy0_1 (i : Nat) : BufTy := match i % 128 with
  | 0 => ⟨S32x4, .f32⟩
  | 1 => ⟨S32x4x1, .f32⟩
  | 2 => ⟨S_, .f32⟩
  | 3 => ⟨S32x4x1, .f32⟩
  | 4 => ⟨S32x4x1, .f32⟩
  | 5 => ⟨S_, .f32⟩
  | 6 => ⟨S32x4x1, .f32⟩
  | 7 => ⟨S32x4x1, .f32⟩
  | 8 => ⟨S32x4x1, .f32⟩
  | 9 => ⟨S32x4x128, .f32⟩
  | 10 => ⟨S32x4x128, .f32⟩
  | 11 => ⟨S1x1x128, .f32⟩
  | 12 => ⟨S32x4x128, .f32⟩
  | 13 => ⟨S32x4x128, .f32⟩
  | 14 => ⟨S32x4x128, .f32⟩
  | 15 => ⟨S32x4x128, .f32⟩
  | 16 => ⟨S32x4x128, .f32⟩
  | 17 => ⟨S_, .f32⟩
  | 18 => ⟨S32x4x128, .f32⟩
  | 19 => ⟨S32x4x128, .f32⟩
  | 20 => ⟨S_, .f32⟩
  | 21 => ⟨S32x4x128, .f32⟩
  | 22 => ⟨S32x4x128, .f32⟩
  | 23 => ⟨S32x4x128, .f32⟩
  | 24 => ⟨S32x4x128, .f32⟩
  | 25 => ⟨S32x1x512, .f32⟩
  | 26 => ⟨S32x1x512, .bf16⟩
  | _ => ⟨S32x1536, .f32⟩

abbrev hbmTy (i : Nat) : BufTy := match i / 128 with
  | 0 => hbmTy0_0 i
  | 1 => hbmTy0_1 i
  | _ => ⟨S32x1536, .f32⟩

abbrev bufTy : (tb : Table) → Fin (tcTables nBuf tb) → BufTy
  | .hbm, ⟨i, _⟩ => hbmTy i
  | _, _ => ⟨S32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_1 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_2 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_6 : Ref sig .tc := ⟨.hbm, 127, rfl⟩
abbrev main_v90 : Ref sig .tc := ⟨.hbm, 128, rfl⟩
abbrev main_v91 : Ref sig .tc := ⟨.hbm, 129, rfl⟩
abbrev main_cst_7 : Ref sig .tc := ⟨.hbm, 130, rfl⟩
abbrev main_v92 : Ref sig .tc := ⟨.hbm, 131, rfl⟩
abbrev main_v93 : Ref sig .tc := ⟨.hbm, 132, rfl⟩
abbrev main_cst_8 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_call2_v5 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]
-- ==== InProj.lean ====
abbrev S4x4096x1024 : Shape := ⟨3, ![4, 4096, 1024]⟩
abbrev S1024 : Shape := ⟨1, ![1024]⟩
abbrev S1024x5640 : Shape := ⟨2, ![1024, 5640]⟩
abbrev S4x1536 : Shape := ⟨2, ![4, 1536]⟩
abbrev S_ : Shape := ⟨0, ![]⟩
abbrev S1024x120 : Shape := ⟨2, ![1024, 120]⟩
abbrev S1024x2048 : Shape := ⟨2, ![1024, 2048]⟩
abbrev S1024x3584 : Shape := ⟨2, ![1024, 3584]⟩
abbrev S1024x8 : Shape := ⟨2, ![1024, 8]⟩
abbrev S1024x128 : Shape := ⟨2, ![1024, 128]⟩
abbrev S1024x1536 : Shape := ⟨2, ![1024, 1536]⟩
abbrev S1536x1024 : Shape := ⟨2, ![1536, 1024]⟩
abbrev S4096 : Shape := ⟨1, ![4096]⟩
abbrev S16384x1024 : Shape := ⟨2, ![16384, 1024]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x4096 : Shape := ⟨2, ![8, 4096]⟩
abbrev S1x1024 : Shape := ⟨2, ![1, 1024]⟩
abbrev S16384x1536 : Shape := ⟨2, ![16384, 1536]⟩
abbrev S16384x512 : Shape := ⟨2, ![16384, 512]⟩
abbrev S4x512x4096 : Shape := ⟨3, ![4, 512, 4096]⟩
abbrev S16384x128 : Shape := ⟨2, ![16384, 128]⟩
abbrev S4x3x1536 : Shape := ⟨3, ![4, 3, 1536]⟩
abbrev S512x1024 : Shape := ⟨2, ![512, 1024]⟩
abbrev S512x128 : Shape := ⟨2, ![512, 128]⟩
abbrev S8x512 : Shape := ⟨2, ![8, 512]⟩
abbrev S512x1536 : Shape := ⟨2, ![512, 1536]⟩
abbrev S512x512 : Shape := ⟨2, ![512, 512]⟩
abbrev S1x512x512 : Shape := ⟨3, ![1, 512, 512]⟩
abbrev S1x3x1536 : Shape := ⟨3, ![1, 3, 1536]⟩
abbrev S8x1536 : Shape := ⟨2, ![8, 1536]⟩
abbrev S512 : Shape := ⟨1, ![512]⟩
abbrev S512x1 : Shape := ⟨2, ![512, 1]⟩
abbrev S1024x512 : Shape := ⟨2, ![1024, 512]⟩
abbrev S3x1536 : Shape := ⟨2, ![3, 1536]⟩
abbrev S4x128 : Shape := ⟨2, ![4, 128]⟩
abbrev S64x128 : Shape := ⟨2, ![64, 128]⟩
abbrev S8x128 : Shape := ⟨2, ![8, 128]⟩
abbrev S72x128 : Shape := ⟨2, ![72, 128]⟩
abbrev S1x128 : Shape := ⟨2, ![1, 128]⟩
abbrev S64 : Shape := ⟨1, ![64]⟩
abbrev S64x1 : Shape := ⟨2, ![64, 1]⟩
abbrev S1x8x512 : Shape := ⟨3, ![1, 8, 512]⟩
abbrev S48x512 : Shape := ⟨2, ![48, 512]⟩
abbrev S1x48x512 : Shape := ⟨3, ![1, 48, 512]⟩

abbrev nBuf : Space → Nat
  | .hbm => 73
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5640, .f32⟩
  | .hbm, ⟨3, _⟩ => ⟨S4x1536, .f32⟩
  | .hbm, ⟨4, _⟩ => ⟨S1024x5640, .bf16⟩
  | .hbm, ⟨5, _⟩ => ⟨S_, .bf16⟩
  | .hbm, ⟨6, _⟩ => ⟨S1024x120, .bf16⟩
  | .hbm, ⟨7, _⟩ => ⟨S1024x2048, .bf16⟩
  | .hbm, ⟨8, _⟩ => ⟨S1024x3584, .bf16⟩
  | .hbm, ⟨9, _⟩ => ⟨S1024x8, .bf16⟩
  | .hbm, ⟨10, _⟩ => ⟨S1024x128, .bf16⟩
  | .hbm, ⟨11, _⟩ => ⟨S1024x1536, .f32⟩
  | .hbm, ⟨12, _⟩ => ⟨S1536x1024, .f32⟩
  | .hbm, ⟨13, _⟩ => ⟨S1536x1024, .bf16⟩
  | .hbm, ⟨14, _⟩ => ⟨S4096, .i32⟩
  | .hbm, ⟨15, _⟩ => ⟨S16384x1024, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S4096x64, .f32⟩
  | .hbm, ⟨36, _⟩ => ⟨S4096x8, .f32⟩
  | .hbm, ⟨37, _⟩ => ⟨S4096x64, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S4096, .f32⟩
  | .hbm, ⟨54, _⟩ => ⟨S4096x1, .f32⟩
  | .hbm, ⟨55, _⟩ => ⟨S1x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S8x4096, .f32⟩
  | .hbm, ⟨62, _⟩ => ⟨S8x4096, .f32⟩
  | .hbm, ⟨63, _⟩ => ⟨S1x1024, .f32⟩
  | .hbm, ⟨64, _⟩ => ⟨S16384x1536, .f32⟩
  | .hbm, ⟨65, _⟩ => ⟨S16384x512, .f32⟩
  | .hbm, ⟨66, _⟩ => ⟨S4x512x4096, .f32⟩
  | .hbm, ⟨67, _⟩ => ⟨S4x512x4096, .f32⟩
  | .hbm, ⟨68, _⟩ => ⟨S4x512x4096, .f32⟩
  | .hbm, ⟨69, _⟩ => ⟨S16384x1024, .f32⟩
  | .hbm, ⟨70, _⟩ => ⟨S16384x1024, .f32⟩
  | .hbm, ⟨71, _⟩ => ⟨S16384x128, .f32⟩
  | .hbm, ⟨72, _⟩ => ⟨S4x3x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3584, .bf16⟩
  | .local _ .vmem, ⟨5, _⟩ => ⟨S1024x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1536x1024, .bf16⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S4x1536, .f32⟩
  | .local _ .vmem, ⟨18, _⟩ => ⟨S512x1536, .f32⟩
  | .local _ .vmem, ⟨19, _⟩ => ⟨S512x1536, .f32⟩
  | .local _ .vmem, ⟨20, _⟩ => ⟨S512x512, .f32⟩
  | .local _ .vmem, ⟨21, _⟩ => ⟨S512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x128, .f32⟩
  | .local _ .vmem, ⟨33, _⟩ => ⟨S512x128, .f32⟩
  | .local _ .vmem, ⟨34, _⟩ => ⟨S1x3x1536, .f32⟩
  | .local _ .vmem, ⟨35, _⟩ => ⟨S1x3x1536, .f32⟩
  | .local _ .vmem, ⟨36, _⟩ => ⟨S8x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v54_2 : Ref sig .tc := ⟨.hbm, 66, rfl⟩
abbrev main_v54_3 : Ref sig .tc := ⟨.hbm, 67, rfl⟩
abbrev main_v54_4 : Ref sig .tc := ⟨.hbm, 68, rfl⟩
abbrev main_v54_5 : Ref sig .tc := ⟨.hbm, 69, rfl⟩
abbrev main_v54_6 : Ref sig .tc := ⟨.hbm, 70, rfl⟩
abbrev main_v54_7 : Ref sig .tc := ⟨.hbm, 71, rfl⟩
abbrev main_v54_8 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x3x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InProjRefIdeal.lean ====
abbrev S4x4096x1024 : Shape := ⟨3, ![4, 4096, 1024]⟩
abbrev S1024 : Shape := ⟨1, ![1024]⟩
abbrev S1024x5640 : Shape := ⟨2, ![1024, 5640]⟩
abbrev S4x1536 : Shape := ⟨2, ![4, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5640 : Shape := ⟨3, ![4, 4096, 5640]⟩
abbrev S4x4096x1536 : Shape := ⟨3, ![4, 4096, 1536]⟩
abbrev S4x4096x512 : Shape := ⟨3, ![4, 4096, 512]⟩
abbrev S4x4096x4 : Shape := ⟨3, ![4, 4096, 4]⟩
abbrev S4x3x1536 : Shape := ⟨3, ![4, 3, 1536]⟩
abbrev S4x4099x1536 : Shape := ⟨3, ![4, 4099, 1536]⟩
abbrev S4x4096x16x64 : Shape := ⟨4, ![4, 4096, 16, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x16x8 : Shape := ⟨4, ![4, 4096, 16, 8]⟩
abbrev S4x4096x16x48 : Shape := ⟨4, ![4, 4096, 16, 48]⟩
abbrev S4x4096x120 : Shape := ⟨3, ![4, 4096, 120]⟩
abbrev S4x4096x128 : Shape := ⟨3, ![4, 4096, 128]⟩
abbrev S16384x512 : Shape := ⟨2, ![16384, 512]⟩
abbrev S4x512x4096 : Shape := ⟨3, ![4, 512, 4096]⟩
abbrev S16384x1024 : Shape := ⟨2, ![16384, 1024]⟩
abbrev S16384x128 : Shape := ⟨2, ![16384, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5640, .f32⟩
  | .hbm, ⟨3, _⟩ => ⟨S4x1536, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x5640, .f32⟩
  | .hbm, ⟨21, _⟩ => ⟨S4x4096x1536, .f32⟩
  | .hbm, ⟨22, _⟩ => ⟨S4x4096x512, .f32⟩
  | .hbm, ⟨23, _⟩ => ⟨S4x4096x4, .f32⟩
  | .hbm, ⟨24, _⟩ => ⟨S4x4096x4, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x3x1536, .f32⟩
  | .hbm, ⟨32, _⟩ => ⟨S4x4099x1536, .f32⟩
  | .hbm, ⟨33, _⟩ => ⟨S4x3x1536, .f32⟩
  | .hbm, ⟨34, _⟩ => ⟨S4x4096x1024, .f32⟩
  | .hbm, ⟨35, _⟩ => ⟨S4x4096x16x64, .f32⟩
  | .hbm, ⟨36, _⟩ => ⟨S4096, .i32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S4096, .f32⟩
  | .hbm, ⟨43, _⟩ => ⟨S4096x1, .f32⟩
  | .hbm, ⟨44, _⟩ => ⟨S1x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S1x4096x1x8, .f32⟩
  | .hbm, ⟨50, _⟩ => ⟨S4096x8, .f32⟩
  | .hbm, ⟨51, _⟩ => ⟨S1x4096x1x8, .f32⟩
  | .hbm, ⟨52, _⟩ => ⟨S4x4096x16x8, .f32⟩
  | .hbm, ⟨53, _⟩ => ⟨S4x4096x16x8, .f32⟩
  | .hbm, ⟨54, _⟩ => ⟨S4x4096x16x8, .f32⟩
  | .hbm, ⟨55, _⟩ => ⟨S4x4096x16x8, .f32⟩
  | .hbm, ⟨56, _⟩ => ⟨S4x4096x16x8, .f32⟩
  | .hbm, ⟨57, _⟩ => ⟨S4x4096x16x8, .f32⟩
  | .hbm, ⟨58, _⟩ => ⟨S4x4096x16x8, .f32⟩
  | .hbm, ⟨59, _⟩ => ⟨S4x4096x16x8, .f32⟩
  | .hbm, ⟨60, _⟩ => ⟨S4x4096x16x8, .f32⟩
  | .hbm, ⟨61, _⟩ => ⟨S4x4096x16x8, .f32⟩
  | .hbm, ⟨62, _⟩ => ⟨S4x4096x16x8, .f32⟩
  | .hbm, ⟨63, _⟩ => ⟨S4x4096x16x8, .f32⟩
  | .hbm, ⟨64, _⟩ => ⟨S4x4096x16x48, .f32⟩
  | .hbm, ⟨65, _⟩ => ⟨S4x4096x16x64, .f32⟩
  | .hbm, ⟨66, _⟩ => ⟨S4x4096x1024, .f32⟩
  | .hbm, ⟨67, _⟩ => ⟨S_, .f32⟩
  | .hbm, ⟨68, _⟩ => ⟨S4x4096x120, .f32⟩
  | .hbm, ⟨69, _⟩ => ⟨S4x4096x128, .f32⟩
  | .hbm, ⟨70, _⟩ => ⟨S16384x512, .f32⟩
  | .hbm, ⟨71, _⟩ => ⟨S4x4096x512, .f32⟩
  | .hbm, ⟨72, _⟩ => ⟨S4x512x4096, .f32⟩
  | .hbm, ⟨73, _⟩ => ⟨S4x4096x512, .f32⟩
  | .hbm, ⟨74, _⟩ => ⟨S4x512x4096, .f32⟩
  | .hbm, ⟨75, _⟩ => ⟨S4x512x4096, .f32⟩
  | .hbm, ⟨76, _⟩ => ⟨S16384x1024, .f32⟩
  | .hbm, ⟨77, _⟩ => ⟨S16384x1024, .f32⟩
  | .hbm, ⟨78, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩

abbrev nD : Nat := 1
abbrev τ : Topo := Topo.v7x

variable {F : FTy → Type} [FloatOps F]
-- ==== Proof.MlpMath.lean ====
module

public import Idealize.ShloMosaic.Lib.Pointwise
public import Idealize.ShloMosaic.Lib.Pipeline.ValueKit

/-! One row of the merge of the two branches and of the feed-forward layer, over plain functions. -/

@[expose] public section

noncomputable section
open Idealize.ShloMosaic
open scoped BigOperators
namespace Cert.Mlp

/-- the logistic function -/
def sigm (a : EReal) : EReal := Ideal.div 1 (1 + Ideal.exp (-a))
/-- a row scaled to mean square one, times the weights -/
def rms (t w : Fin 1024 → EReal) (j : Fin 1024) : EReal :=
  t j * Ideal.rsqrt (Ideal.div (∑ k, t k * t k) (Ideal.ofBits .f32 0x44800000#32) + Ideal.ofBits .f32 0x358637BD#32) * w j
/-- the two branches' projections under their gates, projected and added to the row -/
def hid (x : Fin 1024 → EReal) (oa ob : Fin 512 → EReal) (ga gb : Fin 1024 → EReal) (wa wb : Fin 512 → Fin 1024 → EReal)
    (wo : Fin 1024 → Fin 1024 → EReal) (j : Fin 1024) : EReal :=
  x j + ∑ k, (sigm (ga k) * (∑ l, oa l * wa l k) + sigm (gb k) * (∑ l, ob l * wb l k)) * wo k j
/-- the square of the positive part of one hidden unit -/
def act (t : Fin 1024 → EReal) (up : Fin 1024 → EReal) : EReal := max (∑ k, t k * up k) 0 * max (∑ k, t k * up k) 0
/-- the row after the feed-forward layer of width 4096 -/
def ffn (h n : Fin 1024 → EReal) (up : Fin 1024 → Fin 4096 → EReal) (dn : Fin 4096 → Fin 1024 → EReal) (j : Fin 1024) : EReal :=
  h j + ∑ f, act (rms h n) (fun k => up k f) * dn f j
/-- a quarter of the sum: the hidden units from `1024 c` -/
def part (t : Fin 1024 → EReal) (up : Fin 1024 → Fin 4096 → EReal) (dn : Fin 4096 → Fin 1024 → EReal) (c : Fin 4) (j : Fin 1024) : EReal :=
  ∑ f : Fin 1024, act t (fun k => up k ⟨c.val * 1024 + f.val, by omega⟩) * dn ⟨c.val * 1024 + f.val, by omega⟩ j

theorem parts (h n : Fin 1024 → EReal) (up : Fin 1024 → Fin 4096 → EReal) (dn : Fin 4096 → Fin 1024 → EReal) (j : Fin 1024) :
    h j + part (rms h n) up dn 0 j + part (rms h n) up dn 1 j + part (rms h n) up dn 2 j + part (rms h n) up dn 3 j = ffn h n up dn j := by
  unfold ffn
  rw [Fin.sum_univ_tiles 4 1024 (by decide), Fin.sum_univ_four]
  simp only [← add_assoc]
  rfl

end Cert.Mlp
end
-- ==== Proof.MlpUnit.lean ====
module

public import proofs.«01_k».proof.Proof.MlpMath
public import proofs.«01_k».proof.Proof.Gen.MergeMlpIdeal.Value
public import proofs.«01_k».proof.Proof.Gen.MergeMlpRefIdeal.Read

/-! The prompt rows' merge and feed-forward kernel and its reference, read at an index. -/

@[expose] public section
set_option maxRecDepth 16384

noncomputable section
open Idealize.ShloMosaic Idealize.ShloMosaic.TcCoe Idealize.SL.Sem
open scoped BigOperators

namespace Cert.MergeMlpIdeal.Value
open Cert.MergeMlpIdeal Cert.MergeMlpIdeal.Gen

variable (x : FVec Ideal S256x1024 .f32) (oa ob : FVec Ideal S256x512 .bf16) (ga gb : FVec Ideal S256x1024 .f32) (wa wb : FVec Ideal S512x1024 .bf16)
  (wo : FVec Ideal S1024x1024 .bf16)

theorem hid_at (r : Fin 256) (j : Fin 1024) : k0_pay2 (F := Ideal) oa wa ob wb ga gb x wo (ix2 r j) =
    Cert.Mlp.hid (fun k => x (ix2 r k)) (fun k => oa (ix2 r k)) (fun k => ob (ix2 r k)) (fun k => ga (ix2 r k)) (fun k => gb (ix2 r k))
      (fun l k => wa (ix2 l k)) (fun l k => wb (ix2 l k)) (fun l k => wo (ix2 l k)) j := by
  pointwise [k0_pay2, Cert.Mlp.hid, Cert.Mlp.sigm, zero_sub]
theorem rms_at (t : FVec Ideal S256x1024 .f32) (n : FVec Ideal S1x1024 .f32) (r : Fin 256) (j : Fin 1024) :
    k0_pay4 (F := Ideal) t n (ix2 r j) = Cert.Mlp.rms (fun k => t (ix2 r k)) (fun k => n (ix2 0 k)) j := by
  pointwise [k0_pay4, Cert.Mlp.rms]
theorem half_at (t : FVec Ideal S256x1024 .f32) (n : FVec Ideal S1x1024 .f32) (u0 d0 u1 d1 : FVec Ideal S1024x1024 .bf16) (r : Fin 256) (j : Fin 1024) :
    k0_pay5 (F := Ideal) t n u0 d0 u1 d1 (ix2 r j) = t (ix2 r j)
      + (∑ f, Cert.Mlp.act (fun k => k0_pay4 (F := Ideal) t n (ix2 r k)) (fun k => u0 (ix2 k f)) * d0 (ix2 f j))
      + (∑ f, Cert.Mlp.act (fun k => k0_pay4 (F := Ideal) t n (ix2 r k)) (fun k => u1 (ix2 k f)) * d1 (ix2 f j)) := by
  pointwise [k0_pay5, Cert.Mlp.act]
theorem act_at (t : FVec Ideal S256x1024 .f32) (n : FVec Ideal S1x1024 .f32) (u : FVec Ideal S1024x1024 .bf16) (r : Fin 256) (f : Fin 1024) :
    k0_pay6 (F := Ideal) t n u (ix2 r f) = Cert.Mlp.act (fun k => k0_pay4 (F := Ideal) t n (ix2 r k)) (fun k => u (ix2 k f)) := by
  pointwise [k0_pay6, Cert.Mlp.act]
theorem last_at (t : FVec Ideal S256x1024 .bf16) (a : FVec Ideal S256x1024 .f32) (s : FVec Ideal S256x1024 .bf16) (d2 u3 d3 : FVec Ideal S1024x1024 .bf16)
    (n : FVec Ideal S1x1024 .f32) (r : Fin 256) (j : Fin 1024) :
    k0_pay1 (F := Ideal) t a s d2 u3 d3 n (ix2 r j) = Cert.Mlp.rms (fun j => a (ix2 r j) + (∑ f, s (ix2 r f) * d2 (ix2 f j))
      + (∑ f, Cert.Mlp.act (fun k => t (ix2 r k)) (fun k => u3 (ix2 k f)) * d3 (ix2 f j))) (fun k => n (ix2 0 k)) j := by
  pointwise [k0_pay1, Cert.Mlp.rms, Cert.Mlp.act]

end Cert.MergeMlpIdeal.Value

namespace Cert.MergeMlpRefIdeal.Mlp
open Cert.MergeMlpRefIdeal Cert.MergeMlpRefIdeal.Gen Cert.MergeMlpRefIdeal.Read

variable (x0 : FVec Ideal S16384x1024 .f32) (x1 x2 : FVec Ideal S16384x512 .bf16) (x3 x4 : FVec Ideal S16384x1024 .f32) (x5 x6 : FVec Ideal S512x1024 .bf16)
  (x7 : FVec Ideal S1024x1024 .bf16) (x8 : FVec Ideal S1024 .f32) (x9 : FVec Ideal S1024x4096 .bf16) (x10 : FVec Ideal S4096x1024 .bf16) (x11 : FVec Ideal S1024 .f32)

/-- the row `r` before the feed-forward layer -/
def hid (r : Fin 16384) : Fin 1024 → EReal :=
  Cert.Mlp.hid (fun k => x0 (ix2 r k)) (fun k => x1 (ix2 r k)) (fun k => x2 (ix2 r k)) (fun k => x3 (ix2 r k)) (fun k => x4 (ix2 r k))
      (fun l k => x5 (ix2 l k)) (fun l k => x6 (ix2 l k)) (fun l k => x7 (ix2 l k))
theorem hid_at (r : Fin 16384) (j : Fin 1024) : val_main_v23 (F := Ideal) x0 x1 x2 x3 x4 x5 x6 x7 (ix2 r j) = hid x0 x1 x2 x3 x4 x5 x6 x7 r j := by
  pointwise [val_main_v23, val_main_v22, val_main_v21, val_main_v20, val_main_v19, val_main_v18, val_main_v17, val_main_cst_2, val_main_v16, val_main_v15, val_main_cst_1, val_main_v14, val_main_v13, val_main_v12,
    val_main_v11, val_main_v10, val_main_cst_0, val_main_v9, val_main_v8, val_main_cst, val_main_v7, val_main_v6, val_main_v5, val_main_v4, val_main_v3, val_main_v2, val_main_v1, val_main_v0, hid, Cert.Mlp.hid, Cert.Mlp.sigm]
theorem rms_at (r : Fin 16384) (j : Fin 1024) : val_main_v36 (F := Ideal) x0 x1 x2 x3 x4 x5 x6 x7 x8 (ix2 r j) = Cert.Mlp.rms (hid x0 x1 x2 x3 x4 x5 x6 x7 r) (fun k => x8 (ix1 k)) j := by
  pointwise [val_main_v36, val_main_v35, val_main_v34, val_main_v33, val_main_v32, val_main_v31, val_main_v30, val_main_v29, val_main_cst_5, val_main_v28, val_main_v27, val_main_cst_4, val_main_v26, val_main_v25, val_main_cst_3,
    val_main_v24, hid_at, Cert.Mlp.rms]
theorem ffn_at (r : Fin 16384) (j : Fin 1024) : val_main_v43 (F := Ideal) x0 x1 x2 x3 x4 x5 x6 x7 x8 x9 x10 (ix2 r j)
    = Cert.Mlp.ffn (hid x0 x1 x2 x3 x4 x5 x6 x7 r) (fun k => x8 (ix1 k)) (fun k f => x9 (ix2 k f)) (fun f k => x10 (ix2 f k)) j := by
  pointwise [val_main_v43, val_main_v42, val_main_v41, val_main_v40, val_main_v39, val_main_call0_v0, val_main_call0_cst, val_main_v38, val_main_v37, hid_at, rms_at, Cert.Mlp.ffn, Cert.Mlp.act]
theorem res_at (r : Fin 16384) (j : Fin 1024) : val_main_v56 (F := Ideal) x0 x1 x2 x3 x4 x5 x6 x7 x8 x9 x10 x11 (ix2 r j)
    = Cert.Mlp.rms (Cert.Mlp.ffn (hid x0 x1 x2 x3 x4 x5 x6 x7 r) (fun k => x8 (ix1 k)) (fun k f => x9 (ix2 k f)) (fun f k => x10 (ix2 f k))) (fun k => x11 (ix1 k)) j := by
  pointwise [val_main_v56, val_main_v55, val_main_v54, val_main_v53, val_main_v52, val_main_v51, val_main_v50, val_main_v49, val_main_cst_8, val_main_v48, val_main_v47, val_main_cst_7, val_main_v46, val_main_v45, val_main_cst_6,
    val_main_v44, ffn_at, Cert.Mlp.rms]
end Cert.MergeMlpRefIdeal.Mlp
end
-- ==== Proof.MlpClaim.lean ====
module

public import proofs.«01_k».proof.Defs
public import proofs.«01_k».proof.Proof.MlpUnit
public import proofs.«01_k».proof.Proof.Gen.MergeMlpRefIdeal.Run
public import Idealize.ShloMosaic.Lib.Claim

/-! The prompt rows' merge and feed-forward kernel: what it leaves in its array, and its claims. -/

@[expose] public section
set_option maxRecDepth 16384

noncomputable section
open Idealize.ShloMosaic Idealize.ShloMosaic.TcCoe Idealize.SL.Sem
open Idealize.ShloMosaic.Pipeline (Dat)
open scoped BigOperators
namespace Cert.MergeMlpIdeal.Value
open Cert.MergeMlpIdeal Cert.MergeMlpIdeal.Gen

variable (m : (ℓ : Loc nD τ sig) → Buf (Elt Ideal) ℓ)

/-- the reference's result over the launch memory's arguments -/
abbrev REF (c : Dev nD) := Cert.MergeMlpRefIdeal.Read.val_main_v56 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] :=
  (by decide +kernel : ∀ t : Fin grid0.N, _)

/-- the row of the array under row `r` of tile `t` -/
def row (t : Fin cfg0.N) (r : Fin 256) : Fin 16384 := ⟨t.val * 256 + r.val, by have h := t.isLt; have e : cfg0.N = 64 := rfl; omega⟩

theorem inu : ∀ q : Fin 4, ∀ a, (![0, q.val * 1024] : Fin 2 → ℕ) a + S1024x1024.size a ≤ S1024x4096.size a := by decide
theorem ind : ∀ q : Fin 4, ∀ a, (![q.val * 1024, 0] : Fin 2 → ℕ) a + S1024x1024.size a ≤ S4096x1024.size a := by decide

variable (c : Dev nD) (t : Fin cfg0.N)

/-- a quarter of the two feed-forward weights -/
def ldU (q : Fin 4) : FVec Ideal S1024x1024 .bf16 := View.ld (iblk m c 9 t) (Rect.unit ![0, q.val * 1024] ![1024, 1024] (inu q))
def ldD (q : Fin 4) : FVec Ideal S1024x1024 .bf16 := View.ld (iblk m c 10 t) (Rect.unit ![q.val * 1024, 0] ![1024, 1024] (ind q))
theorem ldU_at (q : Fin 4) (k f : Fin 1024) : ldU m c t q (ix2 k f) = (m ((c : Thread nD τ).loc main_arg9) : FVec Ideal S1024x4096 .bf16) (ix2 k ⟨q.val * 1024 + f.val, by omega⟩) := by
  pointwise [ldU]
  blk_point [iblk, V, idx t, row]
theorem ldD_at (q : Fin 4) (f k : Fin 1024) : ldD m c t q (ix2 f k) = (m ((c : Thread nD τ).loc main_arg10) : FVec Ideal S4096x1024 .bf16) (ix2 ⟨q.val * 1024 + f.val, by omega⟩ k) := by
  pointwise [ldD]
  blk_point [iblk, V, idx t, row]

theorem x_at (i : Fin 256) (j : Fin 1024) : (iblk m c 0 t : FVec Ideal S256x1024 .f32) (ix2 i j) = (m ((c : Thread nD τ).loc main_arg0) : FVec Ideal S16384x1024 .f32) (ix2 (row t i) j) := by
  blk_point [iblk, V, idx t, row]
theorem oa_at (i : Fin 256) (j : Fin 512) : (iblk m c 1 t : FVec Ideal S256x512 .bf16) (ix2 i j) = (m ((c : Thread nD τ).loc main_arg1) : FVec Ideal S16384x512 .bf16) (ix2 (row t i) j) := by
  blk_point [iblk, V, idx t, row]
theorem ob_at (i : Fin 256) (j : Fin 512) : (iblk m c 2 t : FVec Ideal S256x512 .bf16) (ix2 i j) = (m ((c : Thread nD τ).loc main_arg2) : FVec Ideal S16384x512 .bf16) (ix2 (row t i) j) := by
  blk_point [iblk, V, idx t, row]
theorem ga_at (i : Fin 256) (j : Fin 1024) : (iblk m c 3 t : FVec Ideal S256x1024 .f32) (ix2 i j) = (m ((c : Thread nD τ).loc main_arg3) : FVec Ideal S16384x1024 .f32) (ix2 (row t i) j) := by
  blk_point [iblk, V, idx t, row]
theorem gb_at (i : Fin 256) (j : Fin 1024) : (iblk m c 4 t : FVec Ideal S256x1024 .f32) (ix2 i j) = (m ((c : Thread nD τ).loc main_arg4) : FVec Ideal S16384x1024 .f32) (ix2 (row t i) j) := by
  blk_point [iblk, V, idx t, row]
theorem wa_at (i : Fin 512) (j : Fin 1024) : (iblk m c 5 t : FVec Ideal S512x1024 .bf16) (ix2 i j) = (m ((c : Thread nD τ).loc main_arg5) : FVec Ideal S512x1024 .bf16) (ix2 i j) := by
  blk_point [iblk, V, idx t, row]
theorem wb_at (i : Fin 512) (j : Fin 1024) : (iblk m c 6 t : FVec Ideal S512x1024 .bf16) (ix2 i j) = (m ((c : Thread nD τ).loc main_arg6) : FVec Ideal S512x1024 .bf16) (ix2 i j) := by
  blk_point [iblk, V, idx t, row]
theorem wo_at (i : Fin 1024) (j : Fin 1024) : (iblk m c 7 t : FVec Ideal S1024x1024 .bf16) (ix2 i j) = (m ((c : Thread nD τ).loc main_arg7) : FVec Ideal S1024x1024 .bf16) (ix2 i j) := by
  blk_point [iblk, V, idx t, row]

/-- the row before the feed-forward layer, as the kernel holds it -/
def hidT : FVec Ideal S256x1024 .f32 :=
  k0_pay2 (F := Ideal) (iblk m c 1 t) (iblk m c 5 t) (iblk m c 2 t) (iblk m c 6 t) (iblk m c 3 t) (iblk m c 4 t) (iblk m c 0 t) (iblk m c 7 t)
theorem hidT_at (r : Fin 256) (j : Fin 1024) : hidT m c t (ix2 r j) = Cert.MergeMlpRefIdeal.Mlp.hid (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (row t r) j := by
  refine (hid_at _ _ _ _ _ _ _ _ r j).trans ?_
  unfold Cert.MergeMlpRefIdeal.Mlp.hid
  simp only [x_at m c t, oa_at m c t, ob_at m c t, ga_at m c t, gb_at m c t, wa_at m c t, wb_at m c t, wo_at m c t]
theorem n2_at (k : Fin 1024) : k0_pay3 (F := Ideal) (iblk m c 8 t) (ix2 0 k) = (m ((c : Thread nD τ).loc main_arg8) : FVec Ideal S1024 .f32) (ix1 k) := by
  pointwise [k0_pay3]
  blk_point [iblk, V, idx t, row]
theorem nf_at (k : Fin 1024) : (iblk m c 11 t : FVec Ideal S1x1024 .f32) (ix2 0 k) = (m ((c : Thread nD τ).loc main_arg11) : FVec Ideal S1024 .f32) (ix1 k) := by
  blk_point [iblk, V, idx t, row]

/-- a quarter of the feed-forward sum -/
theorem part_at (q : Fin 4) (h : Fin 1024 → EReal) (j : Fin 1024) :
    (∑ f, Cert.Mlp.act h (fun k => ldU m c t q (ix2 k f)) * ldD m c t q (ix2 f j))
    = Cert.Mlp.part h (fun k f => (m ((c : Thread nD τ).loc main_arg9) : FVec Ideal S1024x4096 .bf16) (ix2 k f)) (fun f k => (m ((c : Thread nD τ).loc main_arg10) : FVec Ideal S4096x1024 .bf16) (ix2 f k)) q j := by
  simp only [ldU_at, ldD_at]
  rfl

/-- the norm's weights as the kernel holds them -/
def nT : FVec Ideal S1x1024 .f32 := k0_pay3 (F := Ideal) (iblk m c 8 t)
theorem hnT_at (r : Fin 256) : (fun k => k0_pay4 (F := Ideal) (hidT m c t) (nT m c t) (ix2 r k)) = Cert.Mlp.rms (fun k => hidT m c t (ix2 r k)) (fun k => nT m c t (ix2 0 k)) :=
  funext fun k => rms_at _ _ r k
/-- the block the kernel stores -/
def resT : FVec Ideal S256x1024 .f32 :=
  k0_pay1 (F := Ideal) (k0_pay4 (hidT m c t) (nT m c t)) (k0_pay5 (hidT m c t) (nT m c t) (ldU m c t 0) (ldD m c t 0) (ldU m c t 1) (ldD m c t 1)) (k0_pay6 (hidT m c t) (nT m c t) (ldU m c t 2))
    (ldD m c t 2) (ldU m c t 3) (ldD m c t 3) (iblk m c 11 t)
theorem sum_at (r : Fin 256) (j : Fin 1024) :
    k0_pay5 (F := Ideal) (hidT m c t) (nT m c t) (ldU m c t 0) (ldD m c t 0) (ldU m c t 1) (ldD m c t 1) (ix2 r j)
      + (∑ f, k0_pay6 (F := Ideal) (hidT m c t) (nT m c t) (ldU m c t 2) (ix2 r f) * ldD m c t 2 (ix2 f j))
      + (∑ f, Cert.Mlp.act (fun k => k0_pay4 (F := Ideal) (hidT m c t) (nT m c t) (ix2 r k)) (fun k => ldU m c t 3 (ix2 k f)) * ldD m c t 3 (ix2 f j))
    = Cert.Mlp.ffn (fun k => hidT m c t (ix2 r k)) (fun k => nT m c t (ix2 0 k)) (fun k f => (m ((c : Thread nD τ).loc main_arg9) : FVec Ideal S1024x4096 .bf16) (ix2 k f))
        (fun f k => (m ((c : Thread nD τ).loc main_arg10) : FVec Ideal S4096x1024 .bf16) (ix2 f k)) j := by
  rw [half_at]
  simp only [act_at]
  rw [hnT_at, part_at, part_at, part_at, part_at]
  exact Cert.Mlp.parts (fun k => hidT m c t (ix2 r k)) _ _ _ j
theorem resT_at (r : Fin 256) (j : Fin 1024) : resT m c t (ix2 r j) = REF m c (ix2 (row t r) j) := by
  refine (last_at _ _ _ _ _ _ _ r j).trans (Eq.trans ?_ (Cert.MergeMlpRefIdeal.Mlp.res_at _ _ _ _ _ _ _ _ _ _ _ _ (row t r) j).symm)
  simp only [sum_at]
  have e1 : (fun k => hidT m c t (ix2 r k)) = _ := funext fun k => hidT_at m c t r k
  have e2 : (fun k => nT m c t (ix2 0 k)) = _ := funext fun k => n2_at m c t k
  have e3 : (fun k => (iblk m c 11 t : FVec Ideal S1x1024 .f32) (ix2 0 k)) = _ := funext fun k => nf_at m c t k
  rw [e1, e2, e3]

theorem point12 (y : S256x1024.Idx) : resT m c t y = REF m c (ix2 (row t (y 0)) (y 1)) := by
  have e : y = ix2 (y 0) (y 1) := by idx_vars y; blk_ext []
  exact (congrArg (resT m c t) e).trans (resT_at m c t (y 0) (y 1))

theorem final12 (c : Dev nD) : (dats m 0 c).arrAt 12 (cfgs 0).N = REF m c := by
  refine (dats m 0 c).arrAt_eq_of_covers 12 _ (by decide +kernel) fun t _ y => ?_
  blk_simp
  rw [after0_12]; unfold_out out0_12; frame_out
  refine Eq.trans (b := resT m c t y) ?_ ?_
  · rfl
  · refine (point12 m c t y).trans ?_
    blk_ext [idx t, row]

end Cert.MergeMlpIdeal.Value

namespace Cert.Proof.Mlp

theorem frameRef : Cert.quiescent_MergeMlpRefIdeal := by
  intro m g _
  run_from Cert.MergeMlpRefIdeal.Value.run m g
  · simp only [and_self, implies_true]
  · refine sem_eq_zero_of_no_sems ?_ _
    rfl

theorem algebraic : Cert.algebraic_MergeMlpIdeal_MergeMlpRefIdeal := by
  pair_intro
  · run_from Cert.MergeMlpIdeal.Gen.run_main m g
  · run_from Cert.MergeMlpRefIdeal.Value.run m' g'
    obtain ⟨h0, h1, h2, h3, h4, h5, h6, h7, h8, h9, h10, h11⟩ := hagree c
    refine (Cert.MergeMlpRefIdeal.Read.val_main_v56_eq m' c).trans ?_
    simp only [h0, h1, h2, h3, h4, h5, h6, h7, h8, h9, h10, h11]
    exact (Cert.MergeMlpIdeal.Value.final12 m c).symm

end Cert.Proof.Mlp
end
-- ==== Proof.MlpSUnit.lean ====
module

public import proofs.«01_k».proof.Proof.MlpMath
public import proofs.«01_k».proof.Proof.Gen.MergeMlpSIdeal.Value
public import proofs.«01_k».proof.Proof.Gen.MergeMlpSRefIdeal.Read

/-! The sample rows' merge and feed-forward kernel and its reference, read at an index. -/

@[expose] public section
set_option maxRecDepth 16384

noncomputable section
open Idealize.ShloMosaic Idealize.ShloMosaic.TcCoe Idealize.SL.Sem
open scoped BigOperators

namespace Cert.MergeMlpSIdeal.Value
open Cert.MergeMlpSIdeal Cert.MergeMlpSIdeal.Gen

variable (x : FVec Ideal S32x1024 .f32) (oa ob : FVec Ideal S32x512 .bf16) (ga gb : FVec Ideal S32x1024 .f32) (wa wb : FVec Ideal S512x1024 .bf16)
  (wo : FVec Ideal S1024x1024 .bf16)

theorem hid_at (r : Fin 32) (j : Fin 1024) : k0_pay2 (F := Ideal) oa wa ob wb ga gb x wo (ix2 r j) =
    Cert.Mlp.hid (fun k => x (ix2 r k)) (fun k => oa (ix2 r k)) (fun k => ob (ix2 r k)) (fun k => ga (ix2 r k)) (fun k => gb (ix2 r k))
      (fun l k => wa (ix2 l k)) (fun l k => wb (ix2 l k)) (fun l k => wo (ix2 l k)) j := by
  pointwise [k0_pay2, Cert.Mlp.hid, Cert.Mlp.sigm, zero_sub]
theorem rms_at (t : FVec Ideal S32x1024 .f32) (n : FVec Ideal S1x1024 .f32) (r : Fin 32) (j : Fin 1024) :
    k0_pay4 (F := Ideal) t n (ix2 r j) = Cert.Mlp.rms (fun k => t (ix2 r k)) (fun k => n (ix2 0 k)) j := by
  pointwise [k0_pay4, Cert.Mlp.rms]
theorem half_at (t : FVec Ideal S32x1024 .f32) (n : FVec Ideal S1x1024 .f32) (u0 d0 u1 d1 : FVec Ideal S1024x1024 .bf16) (r : Fin 32) (j : Fin 1024) :
    k0_pay5 (F := Ideal) t n u0 d0 u1 d1 (ix2 r j) = t (ix2 r j)
      + (∑ f, Cert.Mlp.act (fun k => k0_pay4 (F := Ideal) t n (ix2 r k)) (fun k => u0 (ix2 k f)) * d0 (ix2 f j))
      + (∑ f, Cert.Mlp.act (fun k => k0_pay4 (F := Ideal) t n (ix2 r k)) (fun k => u1 (ix2 k f)) * d1 (ix2 f j)) := by
  pointwise [k0_pay5, Cert.Mlp.act]
theorem act_at (t : FVec Ideal S32x1024 .f32) (n : FVec Ideal S1x1024 .f32) (u : FVec Ideal S1024x1024 .bf16) (r : Fin 32) (f : Fin 1024) :
    k0_pay6 (F := Ideal) t n u (ix2 r f) = Cert.Mlp.act (fun k => k0_pay4 (F := Ideal) t n (ix2 r k)) (fun k => u (ix2 k f)) := by
  pointwise [k0_pay6, Cert.Mlp.act]
theorem last_at (t : FVec Ideal S32x1024 .bf16) (a : FVec Ideal S32x1024 .f32) (s : FVec Ideal S32x1024 .bf16) (d2 u3 d3 : FVec Ideal S1024x1024 .bf16)
    (n : FVec Ideal S1x1024 .f32) (r : Fin 32) (j : Fin 1024) :
    k0_pay1 (F := Ideal) t a s d2 u3 d3 n (ix2 r j) = Cert.Mlp.rms (fun j => a (ix2 r j) + (∑ f, s (ix2 r f) * d2 (ix2 f j))
      + (∑ f, Cert.Mlp.act (fun k => t (ix2 r k)) (fun k => u3 (ix2 k f)) * d3 (ix2 f j))) (fun k => n (ix2 0 k)) j := by
  pointwise [k0_pay1, Cert.Mlp.rms, Cert.Mlp.act]

end Cert.MergeMlpSIdeal.Value

namespace Cert.MergeMlpSRefIdeal.Mlp
open Cert.MergeMlpSRefIdeal Cert.MergeMlpSRefIdeal.Gen Cert.MergeMlpSRefIdeal.Read

variable (x0 : FVec Ideal S32x1024 .f32) (x1 x2 : FVec Ideal S32x512 .bf16) (x3 x4 : FVec Ideal S32x1024 .f32) (x5 x6 : FVec Ideal S512x1024 .bf16)
  (x7 : FVec Ideal S1024x1024 .bf16) (x8 : FVec Ideal S1024 .f32) (x9 : FVec Ideal S1024x4096 .bf16) (x10 : FVec Ideal S4096x1024 .bf16) (x11 : FVec Ideal S1024 .f32)

/-- the row `r` before the feed-forward layer -/
def hid (r : Fin 32) : Fin 1024 → EReal :=
  Cert.Mlp.hid (fun k => x0 (ix2 r k)) (fun k => x1 (ix2 r k)) (fun k => x2 (ix2 r k)) (fun k => x3 (ix2 r k)) (fun k => x4 (ix2 r k))
      (fun l k => x5 (ix2 l k)) (fun l k => x6 (ix2 l k)) (fun l k => x7 (ix2 l k))
theorem hid_at (r : Fin 32) (j : Fin 1024) : val_main_v23 (F := Ideal) x0 x1 x2 x3 x4 x5 x6 x7 (ix2 r j) = hid x0 x1 x2 x3 x4 x5 x6 x7 r j := by
  pointwise [val_main_v23, val_main_v22, val_main_v21, val_main_v20, val_main_v19, val_main_v18, val_main_v17, val_main_cst_2, val_main_v16, val_main_v15, val_main_cst_1, val_main_v14, val_main_v13, val_main_v12,
    val_main_v11, val_main_v10, val_main_cst_0, val_main_v9, val_main_v8, val_main_cst, val_main_v7, val_main_v6, val_main_v5, val_main_v4, val_main_v3, val_main_v2, val_main_v1, val_main_v0, hid, Cert.Mlp.hid, Cert.Mlp.sigm]
theorem rms_at (r : Fin 32) (j : Fin 1024) : val_main_v36 (F := Ideal) x0 x1 x2 x3 x4 x5 x6 x7 x8 (ix2 r j) = Cert.Mlp.rms (hid x0 x1 x2 x3 x4 x5 x6 x7 r) (fun k => x8 (ix1 k)) j := by
  pointwise [val_main_v36, val_main_v35, val_main_v34, val_main_v33, val_main_v32, val_main_v31, val_main_v30, val_main_v29, val_main_cst_5, val_main_v28, val_main_v27, val_main_cst_4, val_main_v26, val_main_v25, val_main_cst_3,
    val_main_v24, hid_at, Cert.Mlp.rms]
theorem ffn_at (r : Fin 32) (j : Fin 1024) : val_main_v43 (F := Ideal) x0 x1 x2 x3 x4 x5 x6 x7 x8 x9 x10 (ix2 r j)
    = Cert.Mlp.ffn (hid x0 x1 x2 x3 x4 x5 x6 x7 r) (fun k => x8 (ix1 k)) (fun k f => x9 (ix2 k f)) (fun f k => x10 (ix2 f k)) j := by
  pointwise [val_main_v43, val_main_v42, val_main_v41, val_main_v40, val_main_v39, val_main_call0_v0, val_main_call0_cst, val_main_v38, val_main_v37, hid_at, rms_at, Cert.Mlp.ffn, Cert.Mlp.act]
theorem res_at (r : Fin 32) (j : Fin 1024) : val_main_v56 (F := Ideal) x0 x1 x2 x3 x4 x5 x6 x7 x8 x9 x10 x11 (ix2 r j)
    = Cert.Mlp.rms (Cert.Mlp.ffn (hid x0 x1 x2 x3 x4 x5 x6 x7 r) (fun k => x8 (ix1 k)) (fun k f => x9 (ix2 k f)) (fun f k => x10 (ix2 f k))) (fun k => x11 (ix1 k)) j := by
  pointwise [val_main_v56, val_main_v55, val_main_v54, val_main_v53, val_main_v52, val_main_v51, val_main_v50, val_main_v49, val_main_cst_8, val_main_v48, val_main_v47, val_main_cst_7, val_main_v46, val_main_v45, val_main_cst_6,
    val_main_v44, ffn_at, Cert.Mlp.rms]
end Cert.MergeMlpSRefIdeal.Mlp
end
-- ==== Proof.MlpSClaim.lean ====
module

public import proofs.«01_k».proof.Defs
public import proofs.«01_k».proof.Proof.MlpSUnit
public import proofs.«01_k».proof.Proof.Gen.MergeMlpSRefIdeal.Run
public import Idealize.ShloMosaic.Lib.Claim

/-! The sample rows' merge and feed-forward kernel: what it leaves in its array, and its claims. -/

@[expose] public section
set_option maxRecDepth 16384

noncomputable section
open Idealize.ShloMosaic Idealize.ShloMosaic.TcCoe Idealize.SL.Sem
open Idealize.ShloMosaic.Pipeline (Dat)
open scoped BigOperators
namespace Cert.MergeMlpSIdeal.Value
open Cert.MergeMlpSIdeal Cert.MergeMlpSIdeal.Gen

variable (m : (ℓ : Loc nD τ sig) → Buf (Elt Ideal) ℓ)

/-- the reference's result over the launch memory's arguments -/
abbrev REF (c : Dev nD) := Cert.MergeMlpSRefIdeal.Read.val_main_v56 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

theorem inu : ∀ q : Fin 4, ∀ a, (![0, q.val * 1024] : Fin 2 → ℕ) a + S1024x1024.size a ≤ S1024x4096.size a := by decide
theorem ind : ∀ q : Fin 4, ∀ a, (![q.val * 1024, 0] : Fin 2 → ℕ) a + S1024x1024.size a ≤ S4096x1024.size a := by decide

variable (c : Dev nD) (t : Fin cfg0.N)

/-- a quarter of the two feed-forward weights -/
def ldU (q : Fin 4) : FVec Ideal S1024x1024 .bf16 := View.ld (iblk m c 9 t) (Rect.unit ![0, q.val * 1024] ![1024, 1024] (inu q))
def ldD (q : Fin 4) : FVec Ideal S1024x1024 .bf16 := View.ld (iblk m c 10 t) (Rect.unit ![q.val * 1024, 0] ![1024, 1024] (ind q))
theorem ldU_at (q : Fin 4) (k f : Fin 1024) : ldU m c t q (ix2 k f) = (m ((c : Thread nD τ).loc main_arg9) : FVec Ideal S1024x4096 .bf16) (ix2 k ⟨q.val * 1024 + f.val, by omega⟩) := by
  pointwise [ldU]
  blk_point [iblk, V, idx t]
theorem ldD_at (q : Fin 4) (f k : Fin 1024) : ldD m c t q (ix2 f k) = (m ((c : Thread nD τ).loc main_arg10) : FVec Ideal S4096x1024 .bf16) (ix2 ⟨q.val * 1024 + f.val, by omega⟩ k) := by
  pointwise [ldD]
  blk_point [iblk, V, idx t]

theorem x_at (i : Fin 32) (j : Fin 1024) : (iblk m c 0 t : FVec Ideal S32x1024 .f32) (ix2 i j) = (m ((c : Thread nD τ).loc main_arg0) : FVec Ideal S32x1024 .f32) (ix2 i j) := by
  blk_point [iblk, V, idx t]
theorem oa_at (i : Fin 32) (j : Fin 512) : (iblk m c 1 t : FVec Ideal S32x512 .bf16) (ix2 i j) = (m ((c : Thread nD τ).loc main_arg1) : FVec Ideal S32x512 .bf16) (ix2 i j) := by
  blk_point [iblk, V, idx t]
theorem ob_at (i : Fin 32) (j : Fin 512) : (iblk m c 2 t : FVec Ideal S32x512 .bf16) (ix2 i j) = (m ((c : Thread nD τ).loc main_arg2) : FVec Ideal S32x512 .bf16) (ix2 i j) := by
  blk_point [iblk, V, idx t]
theorem ga_at (i : Fin 32) (j : Fin 1024) : (iblk m c 3 t : FVec Ideal S32x1024 .f32) (ix2 i j) = (m ((c : Thread nD τ).loc main_arg3) : FVec Ideal S32x1024 .f32) (ix2 i j) := by
  blk_point [iblk, V, idx t]
theorem gb_at (i : Fin 32) (j : Fin 1024) : (iblk m c 4 t : FVec Ideal S32x1024 .f32) (ix2 i j) = (m ((c : Thread nD τ).loc main_arg4) : FVec Ideal S32x1024 .f32) (ix2 i j) := by
  blk_point [iblk, V, idx t]
theorem wa_at (i : Fin 512) (j : Fin 1024) : (iblk m c 5 t : FVec Ideal S512x1024 .bf16) (ix2 i j) = (m ((c : Thread nD τ).loc main_arg5) : FVec Ideal S512x1024 .bf16) (ix2 i j) := by
  blk_point [iblk, V, idx t]
theorem wb_at (i : Fin 512) (j : Fin 1024) : (iblk m c 6 t : FVec Ideal S512x1024 .bf16) (ix2 i j) = (m ((c : Thread nD τ).loc main_arg6) : FVec Ideal S512x1024 .bf16) (ix2 i j) := by
  blk_point [iblk, V, idx t]
theorem wo_at (i : Fin 1024) (j : Fin 1024) : (iblk m c 7 t : FVec Ideal S1024x1024 .bf16) (ix2 i j) = (m ((c : Thread nD τ).loc main_arg7) : FVec Ideal S1024x1024 .bf16) (ix2 i j) := by
  blk_point [iblk, V, idx t]

/-- the row before the feed-forward layer, as the kernel holds it -/
def hidT : FVec Ideal S32x1024 .f32 :=
  k0_pay2 (F := Ideal) (iblk m c 1 t) (iblk m c 5 t) (iblk m c 2 t) (iblk m c 6 t) (iblk m c 3 t) (iblk m c 4 t) (iblk m c 0 t) (iblk m c 7 t)
theorem hidT_at (r : Fin 32) (j : Fin 1024) : hidT m c t (ix2 r j) = Cert.MergeMlpSRefIdeal.Mlp.hid (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) r j := by
  refine (hid_at _ _ _ _ _ _ _ _ r j).trans ?_
  unfold Cert.MergeMlpSRefIdeal.Mlp.hid
  simp only [x_at m c t, oa_at m c t, ob_at m c t, ga_at m c t, gb_at m c t, wa_at m c t, wb_at m c t, wo_at m c t]
theorem n2_at (k : Fin 1024) : k0_pay3 (F := Ideal) (iblk m c 8 t) (ix2 0 k) = (m ((c : Thread nD τ).loc main_arg8) : FVec Ideal S1024 .f32) (ix1 k) := by
  pointwise [k0_pay3]
  blk_point [iblk, V, idx t]
theorem nf_at (k : Fin 1024) : (iblk m c 11 t : FVec Ideal S1x1024 .f32) (ix2 0 k) = (m ((c : Thread nD τ).loc main_arg11) : FVec Ideal S1024 .f32) (ix1 k) := by
  blk_point [iblk, V, idx t]

/-- a quarter of the feed-forward sum -/
theorem part_at (q : Fin 4) (h : Fin 1024 → EReal) (j : Fin 1024) :
    (∑ f, Cert.Mlp.act h (fun k => ldU m c t q (ix2 k f)) * ldD m c t q (ix2 f j))
    = Cert.Mlp.part h (fun k f => (m ((c : Thread nD τ).loc main_arg9) : FVec Ideal S1024x4096 .bf16) (ix2 k f)) (fun f k => (m ((c : Thread nD τ).loc main_arg10) : FVec Ideal S4096x1024 .bf16) (ix2 f k)) q j := by
  simp only [ldU_at, ldD_at]
  rfl

/-- the norm's weights as the kernel holds them -/
def nT : FVec Ideal S1x1024 .f32 := k0_pay3 (F := Ideal) (iblk m c 8 t)
theorem hnT_at (r : Fin 32) : (fun k => k0_pay4 (F := Ideal) (hidT m c t) (nT m c t) (ix2 r k)) = Cert.Mlp.rms (fun k => hidT m c t (ix2 r k)) (fun k => nT m c t (ix2 0 k)) :=
  funext fun k => rms_at _ _ r k
/-- the block the kernel stores -/
def resT : FVec Ideal S32x1024 .f32 :=
  k0_pay1 (F := Ideal) (k0_pay4 (hidT m c t) (nT m c t)) (k0_pay5 (hidT m c t) (nT m c t) (ldU m c t 0) (ldD m c t 0) (ldU m c t 1) (ldD m c t 1)) (k0_pay6 (hidT m c t) (nT m c t) (ldU m c t 2))
    (ldD m c t 2) (ldU m c t 3) (ldD m c t 3) (iblk m c 11 t)
theorem sum_at (r : Fin 32) (j : Fin 1024) :
    k0_pay5 (F := Ideal) (hidT m c t) (nT m c t) (ldU m c t 0) (ldD m c t 0) (ldU m c t 1) (ldD m c t 1) (ix2 r j)
      + (∑ f, k0_pay6 (F := Ideal) (hidT m c t) (nT m c t) (ldU m c t 2) (ix2 r f) * ldD m c t 2 (ix2 f j))
      + (∑ f, Cert.Mlp.act (fun k => k0_pay4 (F := Ideal) (hidT m c t) (nT m c t) (ix2 r k)) (fun k => ldU m c t 3 (ix2 k f)) * ldD m c t 3 (ix2 f j))
    = Cert.Mlp.ffn (fun k => hidT m c t (ix2 r k)) (fun k => nT m c t (ix2 0 k)) (fun k f => (m ((c : Thread nD τ).loc main_arg9) : FVec Ideal S1024x4096 .bf16) (ix2 k f))
        (fun f k => (m ((c : Thread nD τ).loc main_arg10) : FVec Ideal S4096x1024 .bf16) (ix2 f k)) j := by
  rw [half_at]
  simp only [act_at]
  rw [hnT_at, part_at, part_at, part_at, part_at]
  exact Cert.Mlp.parts (fun k => hidT m c t (ix2 r k)) _ _ _ j
theorem resT_at (r : Fin 32) (j : Fin 1024) : resT m c t (ix2 r j) = REF m c (ix2 r j) := by
  refine (last_at _ _ _ _ _ _ _ r j).trans (Eq.trans ?_ (Cert.MergeMlpSRefIdeal.Mlp.res_at _ _ _ _ _ _ _ _ _ _ _ _ r j).symm)
  simp only [sum_at]
  have e1 : (fun k => hidT m c t (ix2 r k)) = _ := funext fun k => hidT_at m c t r k
  have e2 : (fun k => nT m c t (ix2 0 k)) = _ := funext fun k => n2_at m c t k
  have e3 : (fun k => (iblk m c 11 t : FVec Ideal S1x1024 .f32) (ix2 0 k)) = _ := funext fun k => nf_at m c t k
  rw [e1, e2, e3]

theorem point12 (y : S32x1024.Idx) : resT m c t y = REF m c (ix2 (y 0) (y 1)) := by
  have e : y = ix2 (y 0) (y 1) := by idx_vars y; blk_ext []
  exact (congrArg (resT m c t) e).trans (resT_at m c t (y 0) (y 1))

theorem final12 (c : Dev nD) : (dats m 0 c).arrAt 12 (cfgs 0).N = REF m c := by
  refine (dats m 0 c).arrAt_eq_of_covers 12 _ (by decide +kernel) fun t _ y => ?_
  blk_simp
  rw [after0_12]; unfold_out out0_12; frame_out
  refine Eq.trans (b := resT m c t y) ?_ ?_
  · rfl
  · refine (point12 m c t y).trans ?_
    blk_ext [idx t]

end Cert.MergeMlpSIdeal.Value

namespace Cert.Proof.MlpS

theorem frameRef : Cert.quiescent_MergeMlpSRefIdeal := by
  intro m g _
  run_from Cert.MergeMlpSRefIdeal.Value.run m g
  · simp only [and_self, implies_true]
  · refine sem_eq_zero_of_no_sems ?_ _
    rfl

theorem algebraic : Cert.algebraic_MergeMlpSIdeal_MergeMlpSRefIdeal := by
  pair_intro
  · run_from Cert.MergeMlpSIdeal.Gen.run_main m g
  · run_from Cert.MergeMlpSRefIdeal.Value.run m' g'
    obtain ⟨h0, h1, h2, h3, h4, h5, h6, h7, h8, h9, h10, h11⟩ := hagree c
    refine (Cert.MergeMlpSRefIdeal.Read.val_main_v56_eq m' c).trans ?_
    simp only [h0, h1, h2, h3, h4, h5, h6, h7, h8, h9, h10, h11]
    exact (Cert.MergeMlpSIdeal.Value.final12 m c).symm

end Cert.Proof.MlpS
end
-- ==== Proof.DeltaUnit.lean ====
module

public import proofs.«01_k».proof.Proof.Gen.DeltaStepIdeal.Value
public import Idealize.ShloMosaic.Lib.Pointwise
public import Idealize.ShloMosaic.Lib.Pipeline.ValueKit

/-! What one (sequence, head) unit of the delta step computes, first as vectors, then at an index. -/

@[expose] public section
set_option maxRecDepth 16384

noncomputable section
open Idealize.ShloMosaic Idealize.ShloMosaic.TcCoe Idealize.SL.Sem
open scoped BigOperators

/-! The recurrence over plain functions. -/
namespace Cert.Delta

/-- `a / (1 + e^{-a})`. -/
def silu (a : EReal) : EReal := a * Ideal.div 1 (1 + Ideal.exp (-a))
/-- the causal convolution of width four at one channel, then `silu`: `x` the new row, `h` the three rows before it -/
def conv (x : EReal) (h : Fin 3 → EReal) (w : Fin 4 → EReal) : EReal :=
  silu (x * w 3 + h 0 * w 0 + h 1 * w 1 + h 2 * w 2)
/-- `t / sqrt (Σ t² + ε)` -/
def l2n (t : Fin 128 → EReal) (d : Fin 128) : EReal :=
  t d * Ideal.rsqrt ((∑ e, t e * t e) + Ideal.ofBits .f32 0x358637BD#32)
/-- the query of head `h`, read from the convolved row -/
def q (Y : Fin 1536 → EReal) (h : Fin 4) (d : Fin 128) : EReal :=
  l2n (fun d => Y ⟨128 * h.val + d.val, by omega⟩) d * Ideal.ofBits .f32 0x3DB504F3#32
/-- the key of head `h` -/
def k (Y : Fin 1536 → EReal) (h : Fin 4) (d : Fin 128) : EReal :=
  l2n (fun d => Y ⟨512 + 128 * h.val + d.val, by omega⟩) d
/-- the value of head `h` -/
def v (Y : Fin 1536 → EReal) (h : Fin 4) (d : Fin 128) : EReal := Y ⟨1024 + 128 * h.val + d.val, by omega⟩
/-- the step size: the logistic function -/
def beta (l : EReal) : EReal := Ideal.div 1 (1 + Ideal.exp (-l))
/-- the decay `e^g`, `g = -e^{al} · softplus (la + dt)` -/
def dec (al dt la : EReal) : EReal :=
  Ideal.exp (-(Ideal.exp al) * (max (la + dt) 0 + Ideal.log (1 + Ideal.exp (-(FloatOps.absf (F := Ideal) (φ := .f32) (la + dt))))))
/-- the correction `(v - k·S) β` -/
def dv (k v : Fin 128 → EReal) (b : EReal) (S : Fin 128 → Fin 128 → EReal) (e : Fin 128) : EReal :=
  (v e - ∑ d, k d * S d e) * b
/-- the new state -/
def upd (k v : Fin 128 → EReal) (b : EReal) (S : Fin 128 → Fin 128 → EReal) (d e : Fin 128) : EReal :=
  S d e + k d * dv k v b S e
/-- the new state of head `h` from the convolved row, the logits and the old state -/
def state (Y : Fin 1536 → EReal) (h : Fin 4) (lb la al dt : EReal) (S : Fin 128 → Fin 128 → EReal) (d e : Fin 128) : EReal :=
  upd (k Y h) (v Y h) (beta lb) (fun d e => S d e * dec al dt la) d e
/-- the output of a head before its gate, over any state -/
def out (q : Fin 128 → EReal) (S : Fin 128 → Fin 128 → EReal) (e : Fin 128) : EReal := ∑ d, q d * S d e
/-- the normalised, gated output -/
def gated (o nw z : Fin 128 → EReal) (e : Fin 128) : EReal :=
  o e * Ideal.rsqrt (Ideal.div (∑ e, o e * o e) (Ideal.ofBits .f32 0x43000000#32) + Ideal.ofBits .f32 0x358637BD#32) * nw e * silu (z e)

/-- a diagonal factor leaves one term of the sum -/
theorem sum_diag (f : Fin 128 → EReal) (d : Fin 128) :
    (∑ x : Fin 128, Scalar.select (IntOp.cmpi CmpIPredicate.eq (BitVec.ofNat 32 d.val) (BitVec.ofNat 32 x.val)) (f x) 0) = f d := by
  refine (Finset.sum_eq_single d (fun x _ hx => ?_) (fun h => (h (Finset.mem_univ _)).elim)).trans ?_
  · have : (BitVec.ofNat 32 d.val) ≠ BitVec.ofNat 32 x.val := fun h => hx (Fin.ext (by
      have := congrArg BitVec.toNat h
      simp only [BitVec.toNat_ofNat] at this
      omega))
    simp [IntOp.cmpi, Scalar.select, beq_eq_false_iff_ne.mpr this]
  · simp [IntOp.cmpi, Scalar.select]

end Cert.Delta

namespace Cert.DeltaStepIdeal.Value
open Cert.DeltaStepIdeal Cert.DeltaStepIdeal.Gen

/-- the convolved row -/
def yT (W : FVec Ideal S4x1536 .f32) (X : FVec Ideal S1x1x1536 .f32) (H : FVec Ideal S1x3x1536 .f32) : FVec Ideal S1x1536 .f32 := k0_pay4 W X H

theorem yT_at (W X H) (j : Fin 1536) : yT W X H (ix2 0 j) = Cert.Delta.conv (X (ix3 0 0 j)) (fun i => H (ix3 0 i j)) (fun i => W (ix2 i j)) := by
  pointwise [yT, k0_pay4, k0_pay2, k0_pay3, Cert.Delta.conv, Cert.Delta.silu, zero_sub]

/-- a row scaled to unit length -/
def l2T (t : FVec Ideal S1x128 .f32) : FVec Ideal S1x128 .f32 :=
  mulf t (broadcastTo S1x128 (rsqrt (addf (shapeCast S1x1 (multiReduction .add [1] S1 (mulf t t) 0x00000000#32 reduces_S1x128_S1 (.inl rfl) rfl) shapeCasts_S1_S1x1)
    (broadcast S1x1 (Scalar.ofBits .f32 0x358637BD#32)))) broadcasts_S1x1_S1x128)
theorem l2T_at (t) (d : Fin 128) : l2T t (ix2 0 d) = Cert.Delta.l2n (fun d => t (ix2 0 d)) d := by
  pointwise! [l2T, Cert.Delta.l2n]

/-- head `o`'s 128 columns -/
def cutT (o : ℕ) (hs : S1x1536.Slices ![0, o] S1x128) (y : FVec Ideal S1x1536 .f32) : FVec Ideal S1x128 .f32 := extractStridedSlice S1x128 ![0, o] y hs
theorem cutT_at (o : ℕ) (hs) (ho : o + 128 ≤ 1536) (y) (d : Fin 128) : cutT o hs y (ix2 0 d) = y (ix2 0 ⟨o + d.val, by omega⟩) := by
  pointwise [cutT]

def betaT (o : ℕ) (hs : S1x128.Slices ![0, o] S1x1) (LG : FVec Ideal S1x1x128 .f32) : FVec Ideal S1x1 .f32 :=
  divf (broadcast S1x1 (Scalar.ofBits .f32 0x3F800000#32)) (addf (broadcast S1x1 (Scalar.ofBits .f32 0x3F800000#32)) (exp (subf (broadcast S1x1 (Scalar.ofBits .f32 0x00000000#32))
     (extractStridedSlice S1x1 ![0, o] (shapeCast S1x128 LG shapeCasts_S1x1x128_S1x128) hs))))
theorem betaT_at (o : ℕ) (hs) (ho : o + 1 ≤ 128) (LG) : betaT o hs LG (ix2 0 0) = Cert.Delta.beta (LG (ix3 0 0 ⟨o, by omega⟩)) := by
  pointwise [betaT, Cert.Delta.beta, zero_sub]

def decT (o : ℕ) (hs : S1x128.Slices ![0, o] S1x1) (al dt : Elt Ideal .f32) (LG : FVec Ideal S1x1x128 .f32) : FVec Ideal S1x1 .f32 :=
  have a := addf (extractStridedSlice S1x1 ![0, o] (shapeCast S1x128 LG shapeCasts_S1x1x128_S1x128) hs) (broadcast S1x1 dt)
  exp (mulf (subf (broadcast S1x1 (Scalar.ofBits .f32 0x00000000#32)) (exp (broadcast S1x1 al)))
    (addf (maximumf a (broadcast S1x1 (Scalar.ofBits .f32 0x00000000#32)))
      (log (addf (broadcast S1x1 (Scalar.ofBits .f32 0x3F800000#32)) (exp (subf (broadcast S1x1 (Scalar.ofBits .f32 0x00000000#32)) (absf a)))))))
theorem decT_at (o : ℕ) (hs) (ho : o + 1 ≤ 128) (al dt LG) : decT o hs al dt LG (ix2 0 0) = Cert.Delta.dec al dt (LG (ix3 0 0 ⟨o, by omega⟩)) := by
  pointwise [decT, Cert.Delta.dec, zero_sub]

def dvT (v k : FVec Ideal S1x128 .f32) (b : FVec Ideal S1x1 .f32) (S : FVec Ideal S128x128 .f32) : FVec Ideal S1x128 .f32 :=
  mulf (subf v (extractStridedSlice S1x128 ![0, 0] (matmul dot_S8x128_S128x128_S8x128_1_0_0_1_n_n (some .fp32)
    (broadcastTo S8x128 (shapeCast S1x128 k shapeCasts_S1x128_S1x128) broadcasts_S1x128_S8x128) S (constant S8x128 .f32 0x00000000#32)) slices_S8x128_o0_0_S1x128))
    (broadcastTo S1x128 b broadcasts_S1x1_S1x128)
theorem dvT_at (v k b S) (e : Fin 128) : dvT v k b S (ix2 0 e) =
    Cert.Delta.dv (fun d => k (ix2 0 d)) (fun d => v (ix2 0 d)) (b (ix2 0 0)) (fun d e => S (ix2 d e)) e := by
  pointwise [dvT, Cert.Delta.dv]

def updT (S : FVec Ideal S128x128 .f32) (k dv : FVec Ideal S1x128 .f32) : FVec Ideal S128x128 .f32 :=
  addf S (matmul dot_S128x128_S128x128_S128x128_1_0_0_1_n_n (some .fp32)
    (select k0_pay13 (broadcastTo S128x128 (shapeCast S1x128 k shapeCasts_S1x128_S1x128) broadcasts_S1x128_S128x128) (broadcast S128x128 (Scalar.ofBits .f32 0x00000000#32)))
    (broadcastTo S128x128 (shapeCast S1x128 dv shapeCasts_S1x128_S1x128) broadcasts_S1x128_S128x128) (constant S128x128 .f32 0x00000000#32))
theorem updT_at (S k dv) (d e : Fin 128) : updT S k dv (ix2 d e) = S (ix2 d e) + k (ix2 0 d) * dv (ix2 0 e) := by
  pointwise [updT, k0_pay13, Cert.Delta.sum_diag (fun x => k (ix2 0 x) * dv (ix2 0 e)) d]

/-- the old state of a head times its decay -/
def sdT (S : FVec Ideal S1x1x128x128 .f32) (D : FVec Ideal S1x1 .f32) : FVec Ideal S128x128 .f32 :=
  mulf (shapeCast S128x128 S shapeCasts_S1x1x128x128_S128x128) (broadcastTo S128x128 D broadcasts_S1x1_S128x128)
theorem sdT_at (S D) (d e : Fin 128) : sdT S D (ix2 d e) = S (ix4 0 0 d e) * D (ix2 0 0) := by
  pointwise [sdT]

def outT (q : FVec Ideal S1x128 .f32) (S : FVec Ideal S128x128 .f32) : FVec Ideal S1x128 .f32 :=
  extractStridedSlice S1x128 ![0, 0] (matmul dot_S8x128_S128x128_S8x128_1_0_0_1_n_n (some .fp32)
    (broadcastTo S8x128 (shapeCast S1x128 q shapeCasts_S1x128_S1x128) broadcasts_S1x128_S8x128) S (constant S8x128 .f32 0x00000000#32)) slices_S8x128_o0_0_S1x128
theorem outT_at (q S) (e : Fin 128) : outT q S (ix2 0 e) = Cert.Delta.out (fun d => q (ix2 0 d)) (fun d e => S (ix2 d e)) e := by
  pointwise [outT, Cert.Delta.out]

def gatedT (o : ℕ) (hs : S1x512.Slices ![0, o] S1x128) (t nw : FVec Ideal S1x128 .f32) (Z : FVec Ideal S1x1x512 .f32) : FVec Ideal S1x1x128 .bf16 :=
  have z := extractStridedSlice S1x128 ![0, o] (shapeCast S1x512 Z shapeCasts_S1x1x512_S1x512) hs
  shapeCast S1x1x128 (truncf .bf16 (mulf (mulf (mulf t (broadcastTo S1x128 (rsqrt (addf (divf (shapeCast S1x1 (multiReduction .add [1] S1 (mulf t t) 0x00000000#32 reduces_S1x128_S1 (.inl rfl) rfl) shapeCasts_S1_S1x1)
    (broadcast S1x1 (Scalar.ofBits .f32 0x43000000#32))) (broadcast S1x1 (Scalar.ofBits .f32 0x358637BD#32)))) broadcasts_S1x1_S1x128))
    (shapeCast S1x128 nw shapeCasts_S1x128_S1x128))
    (mulf z (divf (broadcast S1x128 (Scalar.ofBits .f32 0x3F800000#32)) (addf (broadcast S1x128 (Scalar.ofBits .f32 0x3F800000#32)) (exp (subf (broadcast S1x128 (Scalar.ofBits .f32 0x00000000#32)) z)))))) bitsLt_bf16_f32)
    shapeCasts_S1x128_S1x1x128
theorem gatedT_at (o : ℕ) (hs) (ho : o + 128 ≤ 512) (t nw Z) (e : Fin 128) : gatedT o hs t nw Z (ix3 0 0 e) =
    Cert.Delta.gated (fun d => t (ix2 0 d)) (fun d => nw (ix2 0 d)) (fun d => Z (ix3 0 0 ⟨o + d.val, by omega⟩)) e := by
  pointwise [gatedT, Cert.Delta.gated, Cert.Delta.silu, zero_sub]

def qT (o : ℕ) (hs : S1x1536.Slices ![0, o] S1x128) (y : FVec Ideal S1x1536 .f32) : FVec Ideal S1x128 .f32 :=
  mulf (l2T (cutT o hs y)) (broadcast S1x128 (Scalar.ofBits .f32 0x3DB504F3#32))

/-- one unit's new state: `oq ok ov ob oa` are where the head's columns start -/
def stateT (ok ov ob oa : ℕ) (hk : S1x1536.Slices ![0, ok] S1x128) (hv : S1x1536.Slices ![0, ov] S1x128)
    (hb : S1x128.Slices ![0, ob] S1x1) (ha : S1x128.Slices ![0, oa] S1x1)
    (W : FVec Ideal S4x1536 .f32) (X : FVec Ideal S1x1x1536 .f32) (H : FVec Ideal S1x3x1536 .f32) (LG : FVec Ideal S1x1x128 .f32)
    (al dt : Elt Ideal .f32) (S : FVec Ideal S1x1x128x128 .f32) : FVec Ideal S128x128 .f32 :=
  updT (sdT S (decT oa ha al dt LG)) (l2T (cutT ok hk (yT W X H)))
    (dvT (cutT ov hv (yT W X H)) (l2T (cutT ok hk (yT W X H))) (betaT ob hb LG) (sdT S (decT oa ha al dt LG)))

/-- the convolved row as a function of the channel -/
def yF (W : FVec Ideal S4x1536 .f32) (X : FVec Ideal S1x1x1536 .f32) (H : FVec Ideal S1x3x1536 .f32) (j : Fin 1536) : EReal :=
  Cert.Delta.conv (X (ix3 0 0 j)) (fun i => H (ix3 0 i j)) (fun i => W (ix2 i j))

theorem stateT_at (h : Fin 4) (ok ov ob oa : ℕ) (ek : ok = 512 + 128 * h.val) (ev : ov = 1024 + 128 * h.val) (eb : ob = h.val) (ea : oa = 4 + h.val)
    (hk hv hb ha W X H LG al dt S) (d e : Fin 128) :
    stateT ok ov ob oa hk hv hb ha W X H LG al dt S (ix2 d e)
      = Cert.Delta.state (yF W X H) h (LG (ix3 0 0 ⟨h.val, by omega⟩)) (LG (ix3 0 0 ⟨4 + h.val, by omega⟩)) al dt (fun d e => S (ix4 0 0 d e)) d e := by
  subst ek ev eb ea
  have hY : ∀ o hs (ho : o + 128 ≤ 1536), (fun d => cutT o hs (yT W X H) (ix2 0 d)) = fun d : Fin 128 => yF W X H ⟨o + d.val, by omega⟩ := fun o hs ho => by
    funext d; rw [cutT_at o hs ho, yT_at]; rfl
  have hS : ∀ d e, sdT S (decT (4 + h.val) ha al dt LG) (ix2 d e) = S (ix4 0 0 d e) * Cert.Delta.dec al dt (LG (ix3 0 0 ⟨4 + h.val, by omega⟩)) := fun d e => by
    rw [sdT_at, decT_at _ _ (by omega)]
  unfold stateT
  rw [updT_at, dvT_at, hS, betaT_at _ _ (by omega)]
  simp only [l2T_at, hY _ hk (by omega), hY _ hv (by omega), hS]
  rfl

theorem qT_at (h : Fin 4) (o : ℕ) (eo : o = 128 * h.val) (hs W X H) (d : Fin 128) :
    qT o hs (yT W X H) (ix2 0 d) = Cert.Delta.q (yF W X H) h d := by
  subst eo
  have : qT (128 * h.val) hs (yT W X H) (ix2 0 d) = l2T (cutT (128 * h.val) hs (yT W X H)) (ix2 0 d) * Ideal.ofBits .f32 0x3DB504F3#32 := by
    pointwise [qT]
  rw [this, l2T_at]
  unfold Cert.Delta.q
  congr 2
  funext d
  rw [cutT_at _ _ (by omega), yT_at]; rfl

end Cert.DeltaStepIdeal.Value
end
-- ==== Proof.DeltaRef.lean ====
module

public import proofs.«01_k».proof.Proof.DeltaUnit
public import proofs.«01_k».proof.Proof.Gen.DeltaStepRefIdeal.Read
public import Idealize.ShloMosaic.Lib.Pointwise

/-! What the delta step's reference computes, read at an index. -/

@[expose] public section
set_option maxRecDepth 16384

noncomputable section
open Idealize.ShloMosaic Idealize.ShloMosaic.TcCoe Idealize.SL.Sem
open scoped BigOperators
namespace Cert.DeltaStepRefIdeal.Delta
open Cert.DeltaStepRefIdeal Cert.DeltaStepRefIdeal.Gen Cert.DeltaStepRefIdeal.Read

variable (x0 : FVec Ideal S32x1536 .f32) (x1 : FVec Ideal S32x512 .f32) (x2 : FVec Ideal S32x128 .f32) (x3 : FVec Ideal S32x3x1536 .f32)
  (x4 : FVec Ideal S4x1536 .f32) (x5 : FVec Ideal S32x4x128x128 .f32) (x6 x7 : FVec Ideal S4 .f32) (x8 : FVec Ideal S128 .f32)

/-- the convolved row of sequence `b` -/
def yF (b : Fin 32) (j : Fin 1536) : EReal :=
  Cert.Delta.conv (x0 (ix2 b j)) (fun i => x3 (ix3 b i j)) (fun i => x4 (ix2 i j))

theorem y_at (b : Fin 32) (j : Fin 1536) : val_main_v32 (F := Ideal) x0 x3 x4 (ix2 b j) = yF x0 x3 x4 b j := by
  pointwise [val_main_v0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_call0_v0, val_main_call0_v1, val_main_call0_cst, val_main_call0_v2, val_main_call0_v3, val_main_call0_cst_0, val_main_call0_v4, val_main_call0_v5, val_main_v31, val_main_v32, yF, Cert.Delta.conv, Cert.Delta.silu]
  have e : x3 (ix3 b 0 j) * x4 (ix2 0 j) + x3 (ix3 b 1 j) * x4 (ix2 1 j) + x3 (ix3 b 2 j) * x4 (ix2 2 j) + x0 (ix2 b j) * x4 (ix2 3 j)
      = x0 (ix2 b j) * x4 (ix2 3 j) + x3 (ix3 b 0 j) * x4 (ix2 0 j) + x3 (ix3 b 1 j) * x4 (ix2 1 j) + x3 (ix3 b 2 j) * x4 (ix2 2 j) := by ac_rfl
  rw [e]

theorem k_at (b : Fin 32) (h : Fin 4) (d : Fin 128) : val_main_v55 (F := Ideal) x0 x3 x4 (ix3 b h d) = Cert.Delta.k (yF x0 x3 x4 b) h d := by
  pointwise [val_main_v46, val_main_v47, val_main_v48, val_main_cst_2, val_main_v49, val_main_v50, val_main_cst_3, val_main_v51, val_main_v52, val_main_v53, val_main_v54, val_main_v55, y_at, Cert.Delta.k, Cert.Delta.l2n]
  have e : ∀ x : Fin 128, (⟨512 + (h.val * 128 + x.val), by omega⟩ : Fin 1536) = ⟨512 + 128 * h.val + x.val, by omega⟩ := fun x => Fin.ext (by simp only []; omega)
  simp only [e]
theorem q_at (b : Fin 32) (h : Fin 4) (d : Fin 128) : val_main_v45 (F := Ideal) x0 x3 x4 (ix3 b h d) = Cert.Delta.q (yF x0 x3 x4 b) h d := by
  pointwise [val_main_v34, val_main_v35, val_main_v36, val_main_cst, val_main_v37, val_main_v38, val_main_cst_0, val_main_v39, val_main_v40, val_main_v41, val_main_v42, val_main_v43, val_main_cst_1, val_main_v44, val_main_v45, y_at, Cert.Delta.q, Cert.Delta.l2n]
  have e : ∀ x : Fin 128, (⟨h.val * 128 + x.val, by omega⟩ : Fin 1536) = ⟨128 * h.val + x.val, by omega⟩ := fun x => Fin.ext (by simp only []; omega)
  simp only [e]
theorem v_at (b : Fin 32) (h : Fin 4) (d : Fin 128) : val_main_v57 (F := Ideal) x0 x3 x4 (ix3 b h d) = Cert.Delta.v (yF x0 x3 x4 b) h d := by
  pointwise [val_main_v57, val_main_v56, y_at, Cert.Delta.v]
  exact congrArg _ (Fin.ext (by simp only []; omega))
theorem beta_at (b : Fin 32) (h : Fin 4) : val_main_v63 (F := Ideal) x2 (ix2 b h) = Cert.Delta.beta (x2 (ix2 b ⟨h.val, by omega⟩)) := by
  pointwise [val_main_v1, val_main_v58, val_main_v59, val_main_cst_4, val_main_v60, val_main_v61, val_main_cst_5, val_main_v62, val_main_v63, Cert.Delta.beta]
theorem dec_at (b : Fin 32) (h : Fin 4) : val_main_v73 (F := Ideal) x2 x6 x7 (ix2 b h) = Cert.Delta.dec (x6 (ix1 h)) (x7 (ix1 h)) (x2 (ix2 b ⟨4 + h.val, by omega⟩)) := by
  pointwise [val_main_v2, val_main_v64, val_main_v65, val_main_v66, val_main_v67, val_main_v68, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v69, val_main_v70, val_main_v71, val_main_v72, val_main_v73, Cert.Delta.dec]
  rw [if_neg (fun h => h rfl)]
  rfl
theorem s_at (b : Fin 32) (h : Fin 4) (d e : Fin 128) : val_main_v76 (F := Ideal) x2 x5 x6 x7 (ix4 b h d e)
    = x5 (ix4 b h d e) * Cert.Delta.dec (x6 (ix1 h)) (x7 (ix1 h)) (x2 (ix2 b ⟨4 + h.val, by omega⟩)) := by
  pointwise [val_main_v76, val_main_v75, val_main_v74, dec_at]
theorem state_at (b : Fin 32) (h : Fin 4) (d e : Fin 128) : val_main_v87 (F := Ideal) x0 x2 x3 x4 x5 x6 x7 (ix4 b h d e)
    = Cert.Delta.state (yF x0 x3 x4 b) h (x2 (ix2 b ⟨h.val, by omega⟩)) (x2 (ix2 b ⟨4 + h.val, by omega⟩)) (x6 (ix1 h)) (x7 (ix1 h)) (fun d e => x5 (ix4 b h d e)) d e := by
  pointwise [val_main_v87, val_main_v86, val_main_v85, val_main_v84, val_main_v83, val_main_v82, val_main_v81, val_main_v80, val_main_v79, val_main_v78, val_main_v77, s_at, k_at, v_at, beta_at,
    Cert.Delta.state, Cert.Delta.upd, Cert.Delta.dv]
theorem out_at (b : Fin 32) (h : Fin 4) (e : Fin 128) : val_main_v88 (F := Ideal) x0 x2 x3 x4 x5 x6 x7 (ix3 b h e)
    = Cert.Delta.out (Cert.Delta.q (yF x0 x3 x4 b) h) (fun d e => val_main_v87 (F := Ideal) x0 x2 x3 x4 x5 x6 x7 (ix4 b h d e)) e := by
  pointwise [val_main_v88, q_at, Cert.Delta.out]
theorem gated_at (b : Fin 32) (h : Fin 4) (e : Fin 128) : val_main_v104 (F := Ideal) x0 x1 x2 x3 x4 x5 x6 x7 x8 (ix3 b h e)
    = Cert.Delta.gated (fun e => val_main_v88 (F := Ideal) x0 x2 x3 x4 x5 x6 x7 (ix3 b h e)) (fun e => x8 (ix1 e)) (fun e => x1 (ix2 b ⟨128 * h.val + e.val, by omega⟩)) e := by
  have c : ∀ x : Fin 128, (⟨h.val * 128 + x.val, by omega⟩ : Fin 512) = ⟨128 * h.val + x.val, by omega⟩ := fun x => Fin.ext (by simp only []; omega)
  pointwise [val_main_v89, val_main_cst_6, val_main_v90, val_main_v91, val_main_cst_7, val_main_v92, val_main_v93, val_main_cst_8, val_main_v94, val_main_v95, val_main_v96, val_main_v97, val_main_v98, val_main_v99, val_main_v100, val_main_v101, val_main_v102, val_main_call2_v0, val_main_call2_v1, val_main_call2_cst, val_main_call2_v2, val_main_call2_v3, val_main_call2_cst_0, val_main_call2_v4, val_main_call2_v5, val_main_v103, val_main_v104, Cert.Delta.gated, Cert.Delta.silu]
  simp only [c]
theorem res_at (b : Fin 32) (j : Fin 512) : val_main_v106 (F := Ideal) x0 x1 x2 x3 x4 x5 x6 x7 x8 (ix3 b 0 j)
    = val_main_v104 (F := Ideal) x0 x1 x2 x3 x4 x5 x6 x7 x8 (ix3 b ⟨j.val / 128, by omega⟩ ⟨j.val % 128, by omega⟩) := by
  pointwise [val_main_v106, val_main_v105]
theorem buf_at (b : Fin 32) (i : Fin 3) (j : Fin 1536) : val_main_v33 (F := Ideal) x0 x3 (ix3 b i j)
    = if h : 1 + i.val < 3 then x3 (ix3 b ⟨1 + i.val, by omega⟩ j) else x0 (ix2 b j) := by
  pointwise [val_main_v33, val_main_v3, val_main_v0]
end Cert.DeltaStepRefIdeal.Delta
end
-- ==== Proof.DeltaValue.lean ====
module

public import proofs.«01_k».proof.Proof.DeltaRef

/-! What the delta step's kernel leaves in its three arrays: the reference's results. -/

@[expose] public section
set_option maxRecDepth 16384

noncomputable section
open Idealize.ShloMosaic Idealize.ShloMosaic.TcCoe Idealize.SL.Sem
open Idealize.ShloMosaic.Pipeline (Dat)
open scoped BigOperators
namespace Cert.DeltaStepIdeal.Value
open Cert.DeltaStepIdeal Cert.DeltaStepIdeal.Gen

variable (m : (ℓ : Loc nD τ sig) → Buf (Elt Ideal) ℓ)

/-- the reference's new state over the launch memory's arguments -/
abbrev REFs (c : Dev nD) := Cert.DeltaStepRefIdeal.Read.val_main_v87 (F := Ideal) (m ((c : Thread nD τ).loc main_arg0)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))
/-- the reference's output -/
abbrev REFo (c : Dev nD) := Cert.DeltaStepRefIdeal.Read.val_main_v106 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- the reference's new convolution rows -/
abbrev REFc (c : Dev nD) := Cert.DeltaStepRefIdeal.Read.val_main_v33 (F := Ideal) (m ((c : Thread nD τ).loc main_arg0)) (m ((c : Thread nD τ).loc main_arg3))

theorem idx : ∀ t : Fin cfg0.N, win0_0.index t = ![0]
    ∧ win0_1.index t = ![0]
    ∧ win0_2.index t = ![t.val, 0, 0]
    ∧ win0_3.index t = ![t.val, 0, 0]
    ∧ win0_4.index t = ![t.val, 0, 0]
    ∧ win0_5.index t = ![t.val, 0, 0]
    ∧ win0_6.index t = ![0, 0]
    ∧ win0_7.index t = ![t.val, 0, 0, 0]
    ∧ win0_8.index t = ![0, 0]
    ∧ win0_9.index t = ![t.val, 0, 0]
    ∧ win0_10.index t = ![t.val, 0, 0, 0]
    ∧ win0_11.index t = ![t.val, 0, 0] :=
  (by decide +kernel : ∀ t : Fin grid0.N, _)

theorem one_pos : 0 < S1.numel := by decide
theorem slk : ∀ k : Fin 4, S1x1536.Slices ![0, 512 + 128 * k.val] S1x128 := by decide
theorem slq : ∀ k : Fin 4, S1x1536.Slices ![0, 128 * k.val] S1x128 := by decide
theorem slv : ∀ k : Fin 4, S1x1536.Slices ![0, 1024 + 128 * k.val] S1x128 := by decide
theorem slb : ∀ k : Fin 4, S1x128.Slices ![0, k.val] S1x1 := by decide
theorem sla : ∀ k : Fin 4, S1x128.Slices ![0, 4 + k.val] S1x1 := by decide
theorem slz : ∀ k : Fin 4, S1x512.Slices ![0, 128 * k.val] S1x128 := by decide
theorem inx : ∀ n : Fin 2, ∀ a, (![n.val, 0, 0] : Fin 3 → ℕ) a + S1x1x1536.size a ≤ S2x1x1536.size a := by decide
theorem inh : ∀ n : Fin 2, ∀ a, (![n.val, 0, 0] : Fin 3 → ℕ) a + S1x3x1536.size a ≤ S2x3x1536.size a := by decide
theorem inl : ∀ n : Fin 2, ∀ a, (![n.val, 0, 0] : Fin 3 → ℕ) a + S1x1x128.size a ≤ S2x1x128.size a := by decide
theorem inz : ∀ n : Fin 2, ∀ a, (![n.val, 0, 0] : Fin 3 → ℕ) a + S1x1x512.size a ≤ S2x1x512.size a := by decide
theorem ins : ∀ n : Fin 2, ∀ k : Fin 4, ∀ a, (![n.val, k.val, 0, 0] : Fin 4 → ℕ) a + S1x1x128x128.size a ≤ S2x4x128x128.size a := by decide
theorem inc : ∀ k : Fin 4, ∀ a, (![k.val] : Fin 1 → ℕ) a + S1.size a ≤ S4.size a := by decide

theorem t_lt (t : Fin cfg0.N) : t.val < 16 := lt_of_lt_of_eq t.isLt N_0
/-- sequence `n` of point `t` -/
def sq (t : Fin cfg0.N) (n : ℕ) (hn : n < 2) : Fin 32 := ⟨2 * t.val + n, by have := t_lt t; omega⟩

variable (c : Dev nD) (t : Fin cfg0.N) (n k : ℕ) (hn : n < 2) (hk : k < 4)

/-- the loads of the unit (sequence `n` of the point, head `k`) -/
def ldX : FVec Ideal S1x1x1536 .f32 := View.ld (iblk m c 2 t) (Rect.unit ![n, 0, 0] ![1, 1, 1536] (inx ⟨n, hn⟩))
def ldH : FVec Ideal S1x3x1536 .f32 := View.ld (iblk m c 5 t) (Rect.unit ![n, 0, 0] ![1, 3, 1536] (inh ⟨n, hn⟩))
def ldL : FVec Ideal S1x1x128 .f32 := View.ld (iblk m c 4 t) (Rect.unit ![n, 0, 0] ![1, 1, 128] (inl ⟨n, hn⟩))
def ldZ : FVec Ideal S1x1x512 .f32 := View.ld (iblk m c 3 t) (Rect.unit ![n, 0, 0] ![1, 1, 512] (inz ⟨n, hn⟩))
def ldS : FVec Ideal S1x1x128x128 .f32 := View.ld (iblk m c 7 t) (Rect.unit ![n, k, 0, 0] ![1, 1, 128, 128] (ins ⟨n, hn⟩ ⟨k, hk⟩))
def ldA : Elt Ideal .f32 := View.ld (iblk m c 0 t) (Rect.unit ![k] ![1] (inc ⟨k, hk⟩)) (Shape.Idx.first one_pos)
def ldD : Elt Ideal .f32 := View.ld (iblk m c 1 t) (Rect.unit ![k] ![1] (inc ⟨k, hk⟩)) (Shape.Idx.first one_pos)

/-- the unit's new state -/
def unitS : FVec Ideal S128x128 .f32 :=
  stateT (512 + 128 * k) (1024 + 128 * k) k (4 + k) (slk ⟨k, hk⟩) (slv ⟨k, hk⟩) (slb ⟨k, hk⟩) (sla ⟨k, hk⟩) (iblk m c 6 t) (ldX m c t n hn) (ldH m c t n hn)
    (ldL m c t n hn) (ldA m c t k hk) (ldD m c t k hk) (ldS m c t n k hn hk)
/-- the unit's output before its gate -/
def unitO : FVec Ideal S1x128 .f32 :=
  outT (qT (128 * k) (slq ⟨k, hk⟩) (yT (iblk m c 6 t) (ldX m c t n hn) (ldH m c t n hn))) (unitS m c t n k hn hk)
/-- the unit's output -/
def unitG : FVec Ideal S1x1x128 .bf16 := gatedT (128 * k) (slz ⟨k, hk⟩) (unitO m c t n k hn hk) (iblk m c 8 t) (ldZ m c t n hn)

theorem yF_at : yF (iblk m c 6 t) (ldX m c t n hn) (ldH m c t n hn)
    = Cert.DeltaStepRefIdeal.Delta.yF (m ((c : Thread nD τ).loc main_arg0)) (m ((c : Thread nD τ).loc main_arg3)) (m ((c : Thread nD τ).loc main_arg4)) (sq t n hn) := by
  have ht := t_lt t
  funext j
  unfold yF Cert.DeltaStepRefIdeal.Delta.yF Cert.Delta.conv
  pointwise [ldX, ldH, sq]
  blk_point [iblk, V, idx t]

theorem ldL_at (i : Fin 128) : ldL m c t n hn (ix3 0 0 i) = (m ((c : Thread nD τ).loc main_arg2) : FVec Ideal S32x128 .f32) (ix2 (sq t n hn) i) := by
  have ht := t_lt t
  pointwise [ldL, sq]
  blk_point [iblk, V, idx t]
theorem ldZ_at (i : Fin 512) : ldZ m c t n hn (ix3 0 0 i) = (m ((c : Thread nD τ).loc main_arg1) : FVec Ideal S32x512 .f32) (ix2 (sq t n hn) i) := by
  have ht := t_lt t
  pointwise [ldZ, sq]
  blk_point [iblk, V, idx t]
theorem ldS_at (d e : Fin 128) : ldS m c t n k hn hk (ix4 0 0 d e) = (m ((c : Thread nD τ).loc main_arg5) : FVec Ideal S32x4x128x128 .f32) (ix4 (sq t n hn) ⟨k, hk⟩ d e) := by
  have ht := t_lt t
  pointwise [ldS, sq]
  blk_point [iblk, V, idx t]
theorem ldA_at : ldA m c t k hk = (m ((c : Thread nD τ).loc main_arg6) : FVec Ideal S4 .f32) (ix1 ⟨k, hk⟩) := by
  pointwise [ldA]
  blk_point [iblk, V, idx t]
theorem ldD_at : ldD m c t k hk = (m ((c : Thread nD τ).loc main_arg7) : FVec Ideal S4 .f32) (ix1 ⟨k, hk⟩) := by
  pointwise [ldD]
  blk_point [iblk, V, idx t]
theorem nw_at (e : Fin 128) : (iblk m c 8 t : FVec Ideal S1x128 .f32) (ix2 0 e) = (m ((c : Thread nD τ).loc main_arg8) : FVec Ideal S128 .f32) (ix1 e) := by
  blk_point [iblk, V, idx t]

theorem unitS_at (d e : Fin 128) : unitS m c t n k hn hk (ix2 d e) = REFs m c (ix4 (sq t n hn) ⟨k, hk⟩ d e) := by
  unfold unitS REFs
  rw [stateT_at ⟨k, hk⟩ _ _ _ _ rfl rfl rfl rfl, Cert.DeltaStepRefIdeal.Delta.state_at, yF_at, ldL_at, ldL_at, ldA_at, ldD_at]
  simp only [ldS_at]

theorem unitO_at (e : Fin 128) : unitO m c t n k hn hk (ix2 0 e) = Cert.DeltaStepRefIdeal.Read.val_main_v88 (F := Ideal) (m ((c : Thread nD τ).loc main_arg0)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))
    (ix3 (sq t n hn) ⟨k, hk⟩ e) := by
  unfold unitO
  rw [outT_at, Cert.DeltaStepRefIdeal.Delta.out_at]
  simp only [qT_at ⟨k, hk⟩ _ rfl, yF_at, unitS_at]

theorem unitG_at (e : Fin 128) : unitG m c t n k hn hk (ix3 0 0 e) = REFo m c (ix3 (sq t n hn) 0 ⟨128 * k + e.val, by omega⟩) := by
  unfold unitG REFo
  have eb : (⟨(128 * k + e.val) / 128, by omega⟩ : Fin 4) = ⟨k, hk⟩ := Fin.ext (by simp only []; omega)
  have ee : (⟨(128 * k + e.val) % 128, by omega⟩ : Fin 128) = e := Fin.ext (by simp only []; omega)
  rw [gatedT_at _ _ (by omega), Cert.DeltaStepRefIdeal.Delta.res_at]
  simp only [eb, ee]
  rw [Cert.DeltaStepRefIdeal.Delta.gated_at]
  simp only [unitO_at, nw_at, ldZ_at]

/-- one store of the new state, read in the array -/
theorem point10 (x : S1x1x128x128.Idx) (y : S2x4x128x128.Idx) (h0 : (y 0 : ℕ) = n) (h1 : (y 1 : ℕ) = k) (h2 : (y 2 : ℕ) = x 2) (h3 : (y 3 : ℕ) = x 3) :
    shapeCast S1x1x128x128 (unitS m c t n k hn hk) shapeCasts_S128x128_S1x1x128x128 x = REFs m c (((View.whole main_v4_1).slice (win0_10.rect t)).emb y) := by
  have e : shapeCast S1x1x128x128 (unitS m c t n k hn hk) shapeCasts_S128x128_S1x1x128x128 x = unitS m c t n k hn hk (ix2 (x 2) (x 3)) := by pointwise
  rw [e]
  refine (unitS_at m c t n k hn hk (x 2) (x 3)).trans ?_
  blk_ext [idx t, sq]
/-- one store of the output, read in the array -/
theorem point9 (x : S1x1x128.Idx) (y : S2x1x512.Idx) (h0 : (y 0 : ℕ) = n) (h2 : (y 2 : ℕ) = 128 * k + x 2) :
    unitG m c t n k hn hk x = REFo m c (((View.whole main_v4_0).slice (win0_9.rect t)).emb y) := by
  have e : x = ix3 0 0 (x 2) := by idx_vars x; blk_ext []
  refine (congrArg (unitG m c t n k hn hk) e).trans ((unitG_at m c t n k hn hk (x 2)).trans ?_)
  blk_ext [idx t, sq]

theorem ldX_at (j : Fin 1536) : ldX m c t n hn (ix3 0 0 j) = (m ((c : Thread nD τ).loc main_arg0) : FVec Ideal S32x1536 .f32) (ix2 (sq t n hn) j) := by
  have ht := t_lt t
  pointwise [ldX, sq]
  blk_point [iblk, V, idx t]
theorem ldH_at (i : Fin 3) (j : Fin 1536) : ldH m c t n hn (ix3 0 i j) = (m ((c : Thread nD τ).loc main_arg3) : FVec Ideal S32x3x1536 .f32) (ix3 (sq t n hn) i j) := by
  have ht := t_lt t
  pointwise [ldH, sq]
  blk_point [iblk, V, idx t]
/-- the newest convolution row, at an index -/
theorem new_at (j : Fin 1536) : k0_pay6 (F := Ideal) (ldX m c t n hn) (ix3 0 0 j) = REFc m c (ix3 (sq t n hn) 2 j) := by
  unfold REFc
  rw [Cert.DeltaStepRefIdeal.Delta.buf_at, dif_neg (by decide)]
  refine Eq.trans ?_ (ldX_at m c t n hn j)
  pointwise [k0_pay6, k0_pay2]
/-- the two convolution rows kept, at an index -/
theorem old_at (i : Fin 2) (j : Fin 1536) : k0_pay5 (F := Ideal) (ldH m c t n hn) (ix3 0 i j) = REFc m c (ix3 (sq t n hn) ⟨i.val, Nat.lt_succ_of_lt i.isLt⟩ j) := by
  unfold REFc
  rw [Cert.DeltaStepRefIdeal.Delta.buf_at, dif_pos (by simp only []; omega)]
  refine Eq.trans ?_ (ldH_at m c t n hn _ j)
  pointwise [k0_pay5, k0_pay3]
/-- the newest convolution row -/
theorem point11x (x : S1x1x1536.Idx) (y : S2x3x1536.Idx) (h0 : (y 0 : ℕ) = n) (h1 : (y 1 : ℕ) = 2) (h2 : (y 2 : ℕ) = x 2) :
    k0_pay6 (F := Ideal) (ldX m c t n hn) x = REFc m c (((View.whole main_v4_2).slice (win0_11.rect t)).emb y) := by
  have e : x = ix3 0 0 (x 2) := by idx_vars x; blk_ext []
  refine (congrArg (k0_pay6 (F := Ideal) (ldX m c t n hn)) e).trans ((new_at m c t n hn (x 2)).trans ?_)
  blk_ext [idx t, sq]
/-- the two convolution rows kept -/
theorem point11h (x : S1x2x1536.Idx) (y : S2x3x1536.Idx) (h0 : (y 0 : ℕ) = n) (h1 : (y 1 : ℕ) = x 1) (h2 : (y 2 : ℕ) = x 2) :
    k0_pay5 (F := Ideal) (ldH m c t n hn) x = REFc m c (((View.whole main_v4_2).slice (win0_11.rect t)).emb y) := by
  have e : x = ix3 0 (x 1) (x 2) := by idx_vars x; blk_ext []
  refine (congrArg (k0_pay5 (F := Ideal) (ldH m c t n hn)) e).trans ((old_at m c t n hn (x 1) (x 2)).trans ?_)
  blk_ext [idx t, sq]

theorem final10 (c : Dev nD) : (dats m 0 c).arrAt 10 (cfgs 0).N = REFs m c := by
  refine (dats m 0 c).arrAt_eq_of_covers 10 _ (by decide +kernel) fun t _ y => ?_
  blk_simp
  rw [after0_10]; frame_out
  canon_tiles x h
  case piece0 => exact point10 m c t 1 3 (by decide) (by decide) x y (by omega) (by omega) (by omega) (by omega)
  case piece1 => exact point10 m c t 1 2 (by decide) (by decide) x y (by omega) (by omega) (by omega) (by omega)
  case piece2 => exact point10 m c t 1 1 (by decide) (by decide) x y (by omega) (by omega) (by omega) (by omega)
  case piece3 => exact point10 m c t 1 0 (by decide) (by decide) x y (by omega) (by omega) (by omega) (by omega)
  case piece4 => exact point10 m c t 0 3 (by decide) (by decide) x y (by omega) (by omega) (by omega) (by omega)
  case piece5 => exact point10 m c t 0 2 (by decide) (by decide) x y (by omega) (by omega) (by omega) (by omega)
  case piece6 => exact point10 m c t 0 1 (by decide) (by decide) x y (by omega) (by omega) (by omega) (by omega)
  case piece7 => exact point10 m c t 0 0 (by decide) (by decide) x y (by omega) (by omega) (by omega) (by omega)

theorem final9 (c : Dev nD) : (dats m 0 c).arrAt 9 (cfgs 0).N = REFo m c := by
  refine (dats m 0 c).arrAt_eq_of_covers 9 _ (by decide +kernel) fun t _ y => ?_
  blk_simp
  rw [after0_9]; unfold Gen.outsAt0; frame_out
  canon_tiles x h
  case piece0 => exact point9 m c t 1 3 (by decide) (by decide) x y (by omega) (by omega)
  case piece1 => exact point9 m c t 1 2 (by decide) (by decide) x y (by omega) (by omega)
  case piece2 => exact point9 m c t 1 1 (by decide) (by decide) x y (by omega) (by omega)
  case piece3 => exact point9 m c t 1 0 (by decide) (by decide) x y (by omega) (by omega)
  case piece4 => exact point9 m c t 0 3 (by decide) (by decide) x y (by omega) (by omega)
  case piece5 => exact point9 m c t 0 2 (by decide) (by decide) x y (by omega) (by omega)
  case piece6 => exact point9 m c t 0 1 (by decide) (by decide) x y (by omega) (by omega)
  case piece7 => exact point9 m c t 0 0 (by decide) (by decide) x y (by omega) (by omega)

theorem final11 (c : Dev nD) : (dats m 0 c).arrAt 11 (cfgs 0).N = REFc m c := by
  refine (dats m 0 c).arrAt_eq_of_covers 11 _ (by decide +kernel) fun t _ y => ?_
  blk_simp
  rw [after0_11]; unfold Gen.outsAt0; frame_out
  have ht := t_lt t
  canon_tiles x h using (View.cover_of_tiledBy _ ![1, 1, 1536] (by sl_kernel_rfl) y)
  case piece0 => exact point11x m c t 1 (by decide) x y (by omega) (by omega) (by omega)
  case piece1 => exact point11h m c t 1 (by decide) x y (by omega) (by omega) (by omega)
  case piece2 => exact point11x m c t 0 (by decide) x y (by omega) (by omega) (by omega)
  case piece3 => exact point11h m c t 0 (by decide) x y (by omega) (by omega) (by omega)

end Cert.DeltaStepIdeal.Value
end
-- ==== Proof.DeltaClaim.lean ====
module

public import proofs.«01_k».proof.Defs
public import proofs.«01_k».proof.Proof.Gen.DeltaStep.Frame
public import proofs.«01_k».proof.Proof.DeltaValue
public import Idealize.ShloMosaic.Lib.Claim

/-! The delta step's claims. -/

@[expose] public section
set_option maxRecDepth 16384

open Idealize.ShloMosaic Idealize.ShloMosaic.TcCoe Idealize.SL.Sem

namespace Cert.Proof.Delta

theorem frameRef : Cert.quiescent_DeltaStepRefIdeal := by
  intro m g _
  run_from Cert.DeltaStepRefIdeal.Value.run m g
  · simp only [and_self, implies_true]
  · refine sem_eq_zero_of_no_sems ?_ _
    rfl

theorem algebraic : Cert.algebraic_DeltaStepIdeal_DeltaStepRefIdeal := by
  pair_intro
  · run_from Cert.DeltaStepIdeal.Gen.run_main m g
  · run_from Cert.DeltaStepRefIdeal.Value.run m' g'
    all_goals obtain ⟨h0, h1, h2, h3, h4, h5, h6, h7, h8⟩ := hagree c
    all_goals try rw [← h1]
    all_goals try rw [← h2]
    all_goals try rw [← h8]
    · refine (Cert.DeltaStepRefIdeal.Read.val_main_v106_eq (StableHlo.launchContents m' c)).trans ?_
      simp only [StableHlo.launchContents_devRef, h0, h1, h2, h3, h4, h5, h6, h7, h8]
      exact (Cert.DeltaStepIdeal.Value.final9 m c).symm
    · refine (Cert.DeltaStepRefIdeal.Read.val_main_v87_eq (StableHlo.launchContents m' c)).trans ?_
      simp only [StableHlo.launchContents_devRef, h0, h1, h2, h3, h4, h5, h6, h7, h8]
      exact (Cert.DeltaStepIdeal.Value.final10 m c).symm
    · refine (Cert.DeltaStepRefIdeal.Read.val_main_v33_eq (StableHlo.launchContents m' c)).trans ?_
      simp only [StableHlo.launchContents_devRef, h0, h1, h2, h3, h4, h5, h6, h7, h8]
      exact (Cert.DeltaStepIdeal.Value.final11 m c).symm

end Cert.Proof.Delta
end
-- ==== Proof.InPRef.lean ====
module

public import proofs.«01_k».proof.Proof.MlpMath
public import proofs.«01_k».proof.Proof.Gen.InProjRefIdeal.Read

/-! The input projection's reference, read at an index. -/

@[expose] public section
set_option maxRecDepth 16384

noncomputable section
open Idealize.ShloMosaic Idealize.ShloMosaic.TcCoe Idealize.SL.Sem
open scoped BigOperators

namespace Cert.InProjRefIdeal.InP
open Cert.InProjRefIdeal Cert.InProjRefIdeal.Gen Cert.InProjRefIdeal.Read

variable (x0 : FVec Ideal S4x4096x1024 .f32) (x1 : FVec Ideal S1024 .f32) (x2 : FVec Ideal S1024x5640 .f32) (x3 : FVec Ideal S4x1536 .f32)

/-- column `j` of the projection of token `s` of sequence `b` -/
def pre (b : Fin 4) (s : Fin 4096) (j : Fin 5640) : EReal :=
  ∑ k, Cert.Mlp.rms (fun k => x0 (ix3 b s k)) (fun k => x1 (ix1 k)) k * x2 (ix2 k j)
/-- the row of token `s` of sequence `b` in the arrays of all rows -/
def row (b : Fin 4) (s : Fin 4096) : Fin 16384 := ⟨b.val * 4096 + s.val, by omega⟩

theorem nrm_at (b : Fin 4) (s : Fin 4096) (k : Fin 1024) : val_main_v12 (F := Ideal) x0 x1 (ix3 b s k)
    = Cert.Mlp.rms (fun k => x0 (ix3 b s k)) (fun k => x1 (ix1 k)) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, Cert.Mlp.rms]
theorem pre_at (b : Fin 4) (s : Fin 4096) (j : Fin 5640) : val_main_v13 (F := Ideal) x0 x1 x2 (ix3 b s j) = pre x0 x1 x2 b s j := by
  pointwise [val_main_v13, nrm_at, pre]

theorem z_at (b : Fin 4) (s : Fin 4096) (j : Fin 512) : val_main_v60 (F := Ideal) x0 x1 x2 (ix2 (row b s) j) = pre x0 x1 x2 b s ⟨1536 + j.val, by omega⟩ := by
  refine Eq.trans ?_ (pre_at x0 x1 x2 b s ⟨1536 + j.val, by omega⟩)
  pointwise [val_main_v60, val_main_v15]
  congr 1
  blk_ext [row]
theorem ga_at (b : Fin 4) (s : Fin 4096) (j : Fin 1024) : val_main_v66 (F := Ideal) x0 x1 x2 (ix2 (row b s) j) = pre x0 x1 x2 b s ⟨3592 + j.val, by omega⟩ := by
  refine Eq.trans ?_ (pre_at x0 x1 x2 b s ⟨3592 + j.val, by omega⟩)
  pointwise [val_main_v66, val_main_v21]
  congr 1
  blk_ext [row]
theorem gb_at (b : Fin 4) (s : Fin 4096) (j : Fin 1024) : val_main_v67 (F := Ideal) x0 x1 x2 (ix2 (row b s) j) = pre x0 x1 x2 b s ⟨4616 + j.val, by omega⟩ := by
  refine Eq.trans ?_ (pre_at x0 x1 x2 b s ⟨4616 + j.val, by omega⟩)
  pointwise [val_main_v67, val_main_v22]
  congr 1
  blk_ext [row]
theorem v_at (b : Fin 4) (s : Fin 4096) (j : Fin 512) : val_main_v65 (F := Ideal) x0 x1 x2 (ix3 b j s) = pre x0 x1 x2 b s ⟨3080 + j.val, by omega⟩ := by
  refine Eq.trans ?_ (pre_at x0 x1 x2 b s ⟨3080 + j.val, by omega⟩)
  pointwise [val_main_v65, val_main_v20]
theorem conv_at (b : Fin 4) (i : Fin 3) (j : Fin 1536) : val_main_v25 (F := Ideal) x0 x1 x2 (ix3 b i j) = pre x0 x1 x2 b ⟨4093 + i.val, by omega⟩ ⟨j.val, by omega⟩ := by
  refine Eq.trans ?_ (pre_at x0 x1 x2 b ⟨4093 + i.val, by omega⟩ ⟨j.val, by omega⟩)
  pointwise [val_main_v25, val_main_v24, val_main_v14]
  rw [dif_neg (by omega)]
  congr 1
  blk_ext []
theorem lg_at (b : Fin 4) (s : Fin 4096) (j : Fin 128) : val_main_v68 (F := Ideal) x0 x1 x2 (ix2 (row b s) j)
    = if h : j.val < 8 then pre x0 x1 x2 b s ⟨2048 + j.val, by omega⟩ else 0 := by
  pointwise [val_main_v68, val_main_v59, val_main_v58, val_main_cst_4, val_main_v17, val_main_v16]
  by_cases h8 : j.val < 8
  · refine Eq.trans ?_ (dif_pos h8).symm
    refine Eq.trans ?_ (pre_at x0 x1 x2 b s _)
    split_ifs
    all_goals first
      | (congr 1; blk_ext [row]; done)
      | (exfalso; have a := ‹¬j.val < 4›; have b := ‹¬j.val - 4 < 4›; omega)
  · refine Eq.trans ?_ (dif_neg h8).symm
    split_ifs
    all_goals first
      | rfl
      | (exfalso; have a := ‹j.val < 4›; omega)
      | (exfalso; have a := ‹j.val - 4 < 4›; omega)
/-- the attention's query and key columns by head -/
theorem qk_at (b : Fin 4) (s : Fin 4096) (h : Fin 16) (d : Fin 64) : val_main_v27 (F := Ideal) x0 x1 x2 (ix4 b s h d)
    = pre x0 x1 x2 b s ⟨2056 + h.val * 64 + d.val, by omega⟩ := by
  refine Eq.trans ?_ (pre_at x0 x1 x2 b s ⟨2056 + h.val * 64 + d.val, by omega⟩)
  pointwise [val_main_v27, val_main_v26, val_main_v18, val_main_v19]
  by_cases h5 : h.val * 64 + d.val < 512
  · rw [dif_pos h5]
    congr 1
    blk_ext []
  · rw [dif_neg h5]
    congr 1
    blk_ext []
theorem q_at (b : Fin 4) (s : Fin 4096) (h : Fin 8) (d : Fin 64) : val_main_v62 (F := Ideal) x0 x1 x2 (ix3 b ⟨h.val * 64 + d.val, by omega⟩ s) = val_main_v56 (F := Ideal) x0 x1 x2 (ix4 b s ⟨h.val, by omega⟩ d) := by
  rw [val_main_v62_apply, val_main_v61_apply, val_main_v57_apply]
  refine congrArg (val_main_v56 (F := Ideal) x0 x1 x2) (funext fun a => ?_)
  match a with
  | ⟨0, _⟩ => exact Fin.ext (by show ((b.val * 4096 + s.val) * 1024 + (h.val * 64 + d.val)) / 4194304 = b.val; omega)
  | ⟨1, _⟩ => exact Fin.ext (by show ((b.val * 4096 + s.val) * 1024 + (h.val * 64 + d.val)) / 1024 % 4096 = s.val; omega)
  | ⟨2, _⟩ => exact Fin.ext (by show ((b.val * 4096 + s.val) * 1024 + (h.val * 64 + d.val)) / 64 % 16 = h.val; omega)
  | ⟨3, _⟩ => exact Fin.ext (by show ((b.val * 4096 + s.val) * 1024 + (h.val * 64 + d.val)) % 64 = d.val; omega)
theorem k_at (b : Fin 4) (s : Fin 4096) (h : Fin 8) (d : Fin 64) : val_main_v64 (F := Ideal) x0 x1 x2 (ix3 b ⟨h.val * 64 + d.val, by omega⟩ s) = val_main_v56 (F := Ideal) x0 x1 x2 (ix4 b s ⟨8 + h.val, by omega⟩ d) := by
  rw [val_main_v64_apply, val_main_v63_apply, val_main_v57_apply]
  refine congrArg (val_main_v56 (F := Ideal) x0 x1 x2) (funext fun a => ?_)
  match a with
  | ⟨0, _⟩ => exact Fin.ext (by show ((b.val * 4096 + s.val) * 1024 + (512 + (h.val * 64 + d.val))) / 4194304 = b.val; omega)
  | ⟨1, _⟩ => exact Fin.ext (by show ((b.val * 4096 + s.val) * 1024 + (512 + (h.val * 64 + d.val))) / 1024 % 4096 = s.val; omega)
  | ⟨2, _⟩ => exact Fin.ext (by show ((b.val * 4096 + s.val) * 1024 + (512 + (h.val * 64 + d.val))) / 64 % 16 = 8 + h.val; omega)
  | ⟨3, _⟩ => exact Fin.ext (by show ((b.val * 4096 + s.val) * 1024 + (512 + (h.val * 64 + d.val))) % 64 = d.val; omega)
/-- the rotation's angle -/
abbrev ang (s : Fin 4096) (d : Fin 8) : EReal := val_main_v38 (F := Ideal) (ix2 s d)
theorem lo_at (b : Fin 4) (s : Fin 4096) (h : Fin 16) (d : Fin 8) : val_main_v49 (F := Ideal) x0 x1 x2 (ix4 b s h d)
    = val_main_v27 (F := Ideal) x0 x1 x2 (ix4 b s h ⟨d.val, by omega⟩) * Ideal.cos (ang s d)
      - val_main_v27 (F := Ideal) x0 x1 x2 (ix4 b s h ⟨8 + d.val, by omega⟩) * Ideal.sin (ang s d) := by
  have e0 : idx_main_v43 (ix4 b s h d) = ix4 b s h ⟨d.val, by omega⟩ := by blk_ext []
  have e1 : idx_main_v44 (ix4 b s h d) = ix4 b s h ⟨8 + d.val, by omega⟩ := by blk_ext []
  have e2 : idx_main_v40 (idx_main_v45 (ix4 b s h d)) = ix2 s d := by blk_ext []
  have e3 : idx_main_v42 (idx_main_v47 (ix4 b s h d)) = ix2 s d := by blk_ext []
  rw [val_main_v49_apply, val_main_v46_apply, val_main_v48_apply, val_main_v43_apply, val_main_v45_apply, val_main_v44_apply, val_main_v47_apply, val_main_v40_apply, val_main_v42_apply, e0, e1, e2, e3]
  rfl
theorem hi_at (b : Fin 4) (s : Fin 4096) (h : Fin 16) (d : Fin 8) : val_main_v54 (F := Ideal) x0 x1 x2 (ix4 b s h d)
    = val_main_v27 (F := Ideal) x0 x1 x2 (ix4 b s h ⟨8 + d.val, by omega⟩) * Ideal.cos (ang s d)
      + val_main_v27 (F := Ideal) x0 x1 x2 (ix4 b s h ⟨d.val, by omega⟩) * Ideal.sin (ang s d) := by
  have e0 : idx_main_v43 (ix4 b s h d) = ix4 b s h ⟨d.val, by omega⟩ := by blk_ext []
  have e1 : idx_main_v44 (ix4 b s h d) = ix4 b s h ⟨8 + d.val, by omega⟩ := by blk_ext []
  have e2 : idx_main_v40 (idx_main_v50 (ix4 b s h d)) = ix2 s d := by blk_ext []
  have e3 : idx_main_v42 (idx_main_v52 (ix4 b s h d)) = ix2 s d := by blk_ext []
  rw [val_main_v54_apply, val_main_v51_apply, val_main_v53_apply, val_main_v43_apply, val_main_v50_apply, val_main_v44_apply, val_main_v52_apply, val_main_v40_apply, val_main_v42_apply, e0, e1, e2, e3]
  rfl
theorem rest_at (b : Fin 4) (s : Fin 4096) (h : Fin 16) (d : Fin 48) : val_main_v55 (F := Ideal) x0 x1 x2 (ix4 b s h d)
    = val_main_v27 (F := Ideal) x0 x1 x2 (ix4 b s h ⟨16 + d.val, by omega⟩) := by
  have e0 : idx_main_v55 (ix4 b s h d) = ix4 b s h ⟨16 + d.val, by omega⟩ := by blk_ext []
  rw [val_main_v55_apply, e0]
theorem cat_at (b : Fin 4) (s : Fin 4096) (h : Fin 16) (d : Fin 64) : val_main_v56 (F := Ideal) x0 x1 x2 (ix4 b s h d) = if h1 : d.val < 8 then val_main_v49 (F := Ideal) x0 x1 x2 (ix4 b s h ⟨d.val, h1⟩)
   else if h2 : d.val - 8 < 8 then val_main_v54 (F := Ideal) x0 x1 x2 (ix4 b s h ⟨d.val - 8, h2⟩) else val_main_v55 (F := Ideal) x0 x1 x2 (ix4 b s h ⟨d.val - 8 - 8, by omega⟩) := by
  pointwise [val_main_v56]

/-- the rotated queries and keys by head: the first eight, the next eight, and the other coordinates -/
theorem rope0_at (b : Fin 4) (s : Fin 4096) (h : Fin 16) (d : Fin 8) : val_main_v56 (F := Ideal) x0 x1 x2 (ix4 b s h ⟨d.val, by omega⟩)
    = pre x0 x1 x2 b s ⟨2056 + h.val * 64 + d.val, by omega⟩ * Ideal.cos (ang s d) - pre x0 x1 x2 b s ⟨2056 + h.val * 64 + (8 + d.val), by omega⟩ * Ideal.sin (ang s d) := by
  rw [cat_at, dif_pos d.isLt, lo_at, qk_at, qk_at]
theorem rope1_at (b : Fin 4) (s : Fin 4096) (h : Fin 16) (d : Fin 8) : val_main_v56 (F := Ideal) x0 x1 x2 (ix4 b s h ⟨8 + d.val, by omega⟩)
    = pre x0 x1 x2 b s ⟨2056 + h.val * 64 + (8 + d.val), by omega⟩ * Ideal.cos (ang s d) + pre x0 x1 x2 b s ⟨2056 + h.val * 64 + d.val, by omega⟩ * Ideal.sin (ang s d) := by
  rw [cat_at, dif_neg (by show ¬ 8 + d.val < 8; omega), dif_pos (by show 8 + d.val - 8 < 8; omega), hi_at, qk_at, qk_at]
  simp only [Nat.add_sub_cancel_left]
theorem rope2_at (b : Fin 4) (s : Fin 4096) (h : Fin 16) (d : Fin 48) : val_main_v56 (F := Ideal) x0 x1 x2 (ix4 b s h ⟨16 + d.val, by omega⟩)
    = pre x0 x1 x2 b s ⟨2056 + h.val * 64 + (16 + d.val), by omega⟩ := by
  rw [cat_at, dif_neg (by show ¬ 16 + d.val < 8; omega), dif_neg (by show ¬ 16 + d.val - 8 < 8; omega), rest_at, qk_at]
  exact congrArg (pre x0 x1 x2 b s) (Fin.ext (by show 2056 + h.val * 64 + (16 + (16 + d.val - 8 - 8)) = 2056 + h.val * 64 + (16 + d.val); omega))
theorem ang_at (s : Fin 4096) (d : Fin 8) : ang s d = FloatOps.sitofp (F := Ideal) FTy.f32 (BitVec.ofNat 32 s.val) * Ideal.exp (FloatOps.sitofp (F := Ideal) FTy.f32 (BitVec.ofNat 32 d.val) * Ideal.ofBits FTy.f32 3218208051#32) := by
  unfold ang
  pointwise [val_main_v38, val_main_v37, val_main_v36, val_main_v35, val_main_v34, val_main_v33, val_main_v32, val_main_v31, val_main_v30, val_main_cst_3, val_main_v29, val_main_v28]
end Cert.InProjRefIdeal.InP
end
-- ==== Proof.InPUnit.lean ====
module

public import proofs.«01_k».proof.Proof.InPRef
public import proofs.«01_k».proof.Proof.Gen.InProjIdeal.Value
public import Idealize.ShloMosaic.Lib.StableHlo.ReadAt

/-! The input projection's kernel: its blocks and its products, read at an index. -/

@[expose] public section
set_option maxRecDepth 16384

noncomputable section
open Idealize.ShloMosaic Idealize.ShloMosaic.TcCoe Idealize.SL.Sem
open scoped BigOperators

namespace Cert.InProjIdeal.Value
open Cert.InProjIdeal Cert.InProjIdeal.Gen

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_8.index t = ![0, 0] ∧ win0_9.index t = ![0, t.val % 8] ∧ win0_10.index t = ![0, t.val % 8]
    ∧ win0_13.index t = ![t.val, 0] ∧ win0_14.index t = ![t.val / 8, 0, t.val % 8] ∧ win0_15.index t = ![t.val / 8, 0, t.val % 8] ∧ win0_16.index t = ![t.val / 8, 0, t.val % 8]
    ∧ win0_17.index t = ![t.val, 0] ∧ win0_18.index t = ![t.val, 0] ∧ win0_19.index t = ![t.val, 0] ∧ win0_20.index t = ![t.val / 8, 0, 0] :=
  (by decide +kernel : ∀ t : Fin grid0.N, _)

/-- the sequence a tile lies in, and the token of its row `r` -/
def sq : Fin 4 := ⟨t.val / 8, by have h := t.isLt; have e : cfg0.N = 32 := rfl; omega⟩
def tok (r : Fin 512) : Fin 4096 := ⟨t.val % 8 * 512 + r.val, by omega⟩

/-- the arguments of the launch memory -/
abbrev A0 : FVec Ideal S4x4096x1024 .f32 := m ((c : Thread nD τ).loc main_arg0)
abbrev A1 : FVec Ideal S1024 .f32 := m ((c : Thread nD τ).loc main_arg1)
abbrev A2 : FVec Ideal S1024x5640 .f32 := m ((c : Thread nD τ).loc main_arg2)
/-- column `j` of the projection of the token in row `r` of the tile -/
abbrev pr (r : Fin 512) (j : Fin 5640) : EReal := Cert.InProjRefIdeal.InP.pre (A0 m c) (A1 m c) (A2 m c) (sq t) (tok t r) j

theorem host0 (b : Fin 16384) (k : Fin 1024) : V m c main_v10 (ix2 b k) = A0 m c (ix3 ⟨b.val / 4096, by omega⟩ ⟨b.val % 4096, by omega⟩ k) := by
  unfold V
  after_reads_at
theorem host4 (k : Fin 1024) (j : Fin 128) : V m c main_v5 (ix2 k j) = if h : j.val < 8 then A2 m c (ix2 k ⟨2048 + j.val, by omega⟩) else (0 : EReal) := by
  unfold V
  after_reads_at
theorem host9 (d : Fin 8) (s : Fin 4096) : V m c main_v51 (ix2 d s) = Ideal.cos (Cert.InProjRefIdeal.InP.ang s d) := by
  rw [Cert.InProjRefIdeal.InP.ang_at]
  unfold V
  after_reads_at
theorem host10 (d : Fin 8) (s : Fin 4096) : V m c main_v52 (ix2 d s) = Ideal.sin (Cert.InProjRefIdeal.InP.ang s d) := by
  rw [Cert.InProjRefIdeal.InP.ang_at]
  unfold V
  after_reads_at

theorem x_at (r : Fin 512) (k : Fin 1024) : (iblk m c 0 t : FVec Ideal S512x1024 .f32) (ix2 r k) = A0 m c (ix3 (sq t) (tok t r) k) := by
  have h := t.isLt
  have e : cfg0.N = 32 := rfl
  have a : (iblk m c 0 t : FVec Ideal S512x1024 .f32) (ix2 r k) = V m c main_v10 (ix2 ⟨t.val * 512 + r.val, by omega⟩ k) := by
    blk_point [iblk, idx t]
  refine (a.trans (host0 m c _ k)).trans ?_
  blk_ext [sq, tok]
theorem nw_at (k : Fin 1024) : (iblk m c 1 t : FVec Ideal S1x1024 .f32) (ix2 0 k) = A1 m c (ix1 k) := by
  blk_point [iblk, V, idx t, sq, tok]
theorem wa_at (k : Fin 1024) (j : Fin 2048) : (iblk m c 2 t : FVec Ideal S1024x2048 .bf16) (ix2 k j) = A2 m c (ix2 k ⟨j.val, by omega⟩) := by
  blk_point [iblk, V, idx t, sq, tok]
theorem wb_at (k : Fin 1024) (j : Fin 3584) : (iblk m c 3 t : FVec Ideal S1024x3584 .bf16) (ix2 k j) = A2 m c (ix2 k ⟨2056 + j.val, by omega⟩) := by
  blk_point [iblk, V, idx t, sq, tok]
theorem wt_at (j : Fin 1536) (k : Fin 1024) : (iblk m c 8 t : FVec Ideal S1536x1024 .bf16) (ix2 j k) = A2 m c (ix2 k ⟨2056 + j.val, by omega⟩) := by
  blk_point [iblk, V, idx t, sq, tok]
theorem wl_at (k : Fin 1024) (j : Fin 128) : (iblk m c 4 t : FVec Ideal S1024x128 .bf16) (ix2 k j)
    = if h : j.val < 8 then A2 m c (ix2 k ⟨2048 + j.val, by omega⟩) else (0 : EReal) := by
  have a : (iblk m c 4 t : FVec Ideal S1024x128 .bf16) (ix2 k j) = V m c main_v5 (ix2 k j) := by
    blk_point [iblk, idx t]
  exact a.trans (host4 m c k j)
theorem cos_at (d : Fin 8) (r : Fin 512) : (iblk m c 9 t : FVec Ideal S8x512 .f32) (ix2 d r) = Ideal.cos (Cert.InProjRefIdeal.InP.ang (tok t r) d) := by
  have a : (iblk m c 9 t : FVec Ideal S8x512 .f32) (ix2 d r) = V m c main_v51 (ix2 d (tok t r)) := by
    blk_point [iblk, idx t, tok]
  exact a.trans (host9 m c d (tok t r))
theorem sin_at (d : Fin 8) (r : Fin 512) : (iblk m c 10 t : FVec Ideal S8x512 .f32) (ix2 d r) = Ideal.sin (Cert.InProjRefIdeal.InP.ang (tok t r) d) := by
  have a : (iblk m c 10 t : FVec Ideal S8x512 .f32) (ix2 d r) = V m c main_v52 (ix2 d (tok t r)) := by
    blk_point [iblk, idx t, tok]
  exact a.trans (host10 m c d (tok t r))

/-- the tile's normalized rows, as the kernel holds them -/
def xb : FVec Ideal S512x1024 .bf16 := k0_pay2 (F := Ideal) (iblk m c 0 t) (iblk m c 1 t)
theorem nrm_at (x : FVec Ideal S512x1024 .f32) (n : FVec Ideal S1x1024 .f32) (r : Fin 512) (k : Fin 1024) :
    k0_pay2 (F := Ideal) x n (ix2 r k) = Cert.Mlp.rms (fun k => x (ix2 r k)) (fun k => n (ix2 0 k)) k := by
  pointwise [k0_pay2, Cert.Mlp.rms]
theorem xb_at (r : Fin 512) (k : Fin 1024) : xb m c t (ix2 r k) = Cert.Mlp.rms (fun k => A0 m c (ix3 (sq t) (tok t r) k)) (fun k => A1 m c (ix1 k)) k := by
  refine (nrm_at _ _ r k).trans ?_
  simp only [x_at m c t, nw_at m c t]
/-- a product with the tile's rows is a column of the projection -/
theorem dot_at (r : Fin 512) (j : Fin 5640) (w : Fin 1024 → EReal) (e : ∀ k, w k = A2 m c (ix2 k j)) : (∑ k, xb m c t (ix2 r k) * w k) = pr m c t r j := by
  simp only [xb_at m c t, e]
  rfl
theorem dotT_at (r : Fin 512) (j : Fin 5640) (w : Fin 1024 → EReal) (e : ∀ k, w k = A2 m c (ix2 k j)) : (∑ k, w k * xb m c t (ix2 r k)) = pr m c t r j := by
  simp only [mul_comm (w _)]
  exact dot_at m c t r j w e

end Cert.InProjIdeal.Value
end
-- ==== Proof.InPMul.lean ====
module

public import proofs.«01_k».proof.Proof.InPUnit

/-! The input projection's kernel: its products are the columns of the projection. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

/-- the reference's results over the launch memory's arguments -/
abbrev R13 (c : Dev nD) := Cert.InProjRefIdeal.Read.val_main_v60 (F := Ideal) (A0 m c) (A1 m c) (A2 m c)
abbrev R14 (c : Dev nD) := Cert.InProjRefIdeal.Read.val_main_v62 (F := Ideal) (A0 m c) (A1 m c) (A2 m c)
abbrev R15 (c : Dev nD) := Cert.InProjRefIdeal.Read.val_main_v64 (F := Ideal) (A0 m c) (A1 m c) (A2 m c)
abbrev R16 (c : Dev nD) := Cert.InProjRefIdeal.Read.val_main_v65 (F := Ideal) (A0 m c) (A1 m c) (A2 m c)
abbrev R17 (c : Dev nD) := Cert.InProjRefIdeal.Read.val_main_v66 (F := Ideal) (A0 m c) (A1 m c) (A2 m c)
abbrev R18 (c : Dev nD) := Cert.InProjRefIdeal.Read.val_main_v67 (F := Ideal) (A0 m c) (A1 m c) (A2 m c)
abbrev R19 (c : Dev nD) := Cert.InProjRefIdeal.Read.val_main_v68 (F := Ideal) (A0 m c) (A1 m c) (A2 m c)
abbrev R20 (c : Dev nD) := Cert.InProjRefIdeal.Read.val_main_v25 (F := Ideal) (A0 m c) (A1 m c) (A2 m c)

section
variable (c : Dev nD) (t : Fin cfg0.N)

/-- a slab of the first weights' columns, of the last weights' columns, and of the transposed weights' rows -/
def ldA (o : ℕ) (inb : ∀ a, (![0, o] : Fin 2 → ℕ) a + (![1024, 512] : Fin 2 → ℕ) a ≤ S1024x2048.size a) : FVec Ideal S1024x512 .bf16 := View.ld (iblk m c 2 t) (Rect.unit ![0, o] ![1024, 512] inb)
def ldB (o : ℕ) (inb : ∀ a, (![0, o] : Fin 2 → ℕ) a + (![1024, 512] : Fin 2 → ℕ) a ≤ S1024x3584.size a) : FVec Ideal S1024x512 .bf16 := View.ld (iblk m c 3 t) (Rect.unit ![0, o] ![1024, 512] inb)
def ldT (o : ℕ) (inb : ∀ a, (![o, 0] : Fin 2 → ℕ) a + (![512, 1024] : Fin 2 → ℕ) a ≤ S1536x1024.size a) : FVec Ideal S512x1024 .bf16 := View.ld (iblk m c 8 t) (Rect.unit ![o, 0] ![512, 1024] inb)
theorem ldA_at (o : ℕ) (inb) (k : Fin 1024) (j : Fin 512) (i : Fin 5640) (e : i.val = o + j.val) : ldA m c t o inb (ix2 k j) = A2 m c (ix2 k i) := by
  pointwise [ldA]
  refine (wa_at m c t k _).trans ?_
  exact congrArg (fun i => A2 m c (ix2 k i)) (Fin.ext e.symm)
theorem ldB_at (o : ℕ) (inb) (k : Fin 1024) (j : Fin 512) (i : Fin 5640) (e : i.val = 2056 + o + j.val) : ldB m c t o inb (ix2 k j) = A2 m c (ix2 k i) := by
  pointwise [ldB]
  refine (wb_at m c t k _).trans ?_
  exact congrArg (fun i => A2 m c (ix2 k i)) (Fin.ext (by show 2056 + (o + j.val) = i.val; omega))
theorem ldT_at (o : ℕ) (inb) (j : Fin 512) (k : Fin 1024) (i : Fin 5640) (e : i.val = 2056 + o + j.val) : ldT m c t o inb (ix2 j k) = A2 m c (ix2 k i) := by
  pointwise [ldT]
  refine (wt_at m c t _ k).trans ?_
  exact congrArg (fun i => A2 m c (ix2 k i)) (Fin.ext (by show 2056 + (o + j.val) = i.val; omega))

theorem mm_at (x : FVec Ideal S512x1024 .bf16) (w : FVec Ideal S1024x512 .bf16) (r j : Fin 512) : k0_pay281 (F := Ideal) x w (ix2 r j) = ∑ k, x (ix2 r k) * w (ix2 k j) := by
  pointwise [k0_pay281]
theorem mmT_at (x : FVec Ideal S512x1024 .bf16) (w : FVec Ideal S512x1024 .bf16) (j r : Fin 512) : k0_pay284 (F := Ideal) x w (ix2 j r) = ∑ k, w (ix2 j k) * x (ix2 r k) := by
  pointwise [k0_pay284]
theorem mmV_at (x : FVec Ideal S512x1024 .bf16) (w : FVec Ideal S512x1024 .bf16) (j r : Fin 512) : k0_pay376 (F := Ideal) x w (ix3 0 j r) = ∑ k, w (ix2 j k) * x (ix2 r k) := by
  pointwise [k0_pay376]
theorem mmL_at (x : FVec Ideal S512x1024 .bf16) (w : FVec Ideal S1024x128 .bf16) (r : Fin 512) (j : Fin 128) : k0_pay1 (F := Ideal) x w (ix2 r j) = ∑ k, x (ix2 r k) * w (ix2 k j) := by
  pointwise [k0_pay1]

theorem colA (o : ℕ) (inb) (x : S512x512.Idx) (r : Fin 512) (j : Fin 5640) (e0 : r.val = (x 0).val) (e1 : j.val = o + (x 1).val) :
    k0_pay281 (F := Ideal) (xb m c t) (ldA m c t o inb) x = pr m c t r j := by
  have e : x = ix2 r (x 1) := by idx_vars x; blk_ext [e0]
  refine (congrArg (k0_pay281 (F := Ideal) (xb m c t) (ldA m c t o inb)) e).trans ?_
  exact (mm_at _ _ r (x 1)).trans (dot_at m c t r j _ fun k => ldA_at m c t o inb k (x 1) j e1)
theorem colB (o : ℕ) (inb) (x : S512x512.Idx) (r : Fin 512) (j : Fin 5640) (e0 : r.val = (x 0).val) (e1 : j.val = 2056 + o + (x 1).val) :
    k0_pay281 (F := Ideal) (xb m c t) (ldB m c t o inb) x = pr m c t r j := by
  have e : x = ix2 r (x 1) := by idx_vars x; blk_ext [e0]
  refine (congrArg (k0_pay281 (F := Ideal) (xb m c t) (ldB m c t o inb)) e).trans ?_
  exact (mm_at _ _ r (x 1)).trans (dot_at m c t r j _ fun k => ldB_at m c t o inb k (x 1) j e1)
theorem colV (o : ℕ) (inb) (x : S1x512x512.Idx) (j : Fin 5640) (e1 : j.val = 2056 + o + (x 1).val) :
    k0_pay376 (F := Ideal) (xb m c t) (ldT m c t o inb) x = pr m c t (x 2) j := by
  have e : x = ix3 0 (x 1) (x 2) := by idx_vars x; blk_ext []
  refine (congrArg (k0_pay376 (F := Ideal) (xb m c t) (ldT m c t o inb)) e).trans ?_
  exact (mmV_at _ _ (x 1) (x 2)).trans (dotT_at m c t (x 2) j _ fun k => ldT_at m c t o inb (x 1) k j e1)
theorem colT (o : ℕ) (inb) (i r : Fin 512) (j : Fin 5640) (e1 : j.val = 2056 + o + i.val) :
    k0_pay284 (F := Ideal) (xb m c t) (ldT m c t o inb) (ix2 i r) = pr m c t r j :=
  (mmT_at _ _ i r).trans (dotT_at m c t r j _ fun k => ldT_at m c t o inb i k j e1)
theorem colL (x : S512x128.Idx) : k0_pay1 (F := Ideal) (xb m c t) (iblk m c 4 t) x
    = if h : (x 1).val < 8 then pr m c t (x 0) ⟨2048 + (x 1).val, by omega⟩ else 0 := by
  have e : x = ix2 (x 0) (x 1) := by idx_vars x; blk_ext []
  refine (congrArg (k0_pay1 (F := Ideal) (xb m c t) (iblk m c 4 t)) e).trans ?_
  refine (mmL_at _ _ (x 0) (x 1)).trans ?_
  by_cases h : (x 1).val < 8
  · refine Eq.trans ?_ (dif_pos h).symm
    exact dot_at m c t (x 0) _ _ fun k => (wl_at m c t k (x 1)).trans (dif_pos h)
  · refine Eq.trans ?_ (dif_neg h).symm
    refine Finset.sum_eq_zero fun k _ => ?_
    rw [(wl_at m c t k (x 1)).trans (dif_neg h), mul_zero]

end

end Cert.InProjIdeal.Value
end
-- ==== Proof.InPOut.lean ====
module

public import proofs.«01_k».proof.Proof.InPMul

/-! The input projection's kernel: the arrays of the gates, the values and the logits. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

theorem fin13 (c : Dev nD) : (dats m 0 c).arrAt 13 (cfgs 0).N = R13 m c := by
  refine (dats m 0 c).arrAt_eq_of_covers 13 _ (by decide +kernel) fun t _ y => ?_
  blk_simp
  rw [after0_13]
  refine Eq.trans (b := pr m c t (y 0) ⟨1536 + (y 1).val, by have h : (y 1).val < 512 := (y 1).isLt; omega⟩) ?_ ((Cert.InProjRefIdeal.InP.z_at (A0 m c) (A1 m c) (A2 m c) (sq t) (tok t (y 0)) (y 1)).symm.trans ?_)
  · by_cases h : t.val % 8 = 0
    · rw [outsAt0_A m c t h]; dsimp only; frame_out
      exact colA m c t 1536 _ y _ _ rfl rfl
    · rw [outsAt0_B m c t h]; dsimp only; frame_out
      exact colA m c t 1536 _ y _ _ rfl rfl
  · blk_ext [idx t, sq, tok, Cert.InProjRefIdeal.InP.row]

theorem fin17 (c : Dev nD) : (dats m 0 c).arrAt 17 (cfgs 0).N = R17 m c := by
  refine (dats m 0 c).arrAt_eq_of_covers 17 _ (by decide +kernel) fun t _ y => ?_
  blk_simp
  rw [after0_17]
  refine Eq.trans (b := pr m c t (y 0) ⟨3592 + (y 1).val, by have h : (y 1).val < 1024 := (y 1).isLt; omega⟩) ?_ ((Cert.InProjRefIdeal.InP.ga_at (A0 m c) (A1 m c) (A2 m c) (sq t) (tok t (y 0)) (y 1)).symm.trans ?_)
  · by_cases h : t.val % 8 = 0
    · rw [outsAt0_A m c t h]; dsimp only; frame_out
      canon_tiles x h'
      · exact colB m c t 2048 _ x _ _ h'0 (by show 3592 + (y 1).val = _; omega)
      · exact colB m c t 1536 _ x _ _ h'0 (by show 3592 + (y 1).val = _; omega)
    · rw [outsAt0_B m c t h]; dsimp only; frame_out
      canon_tiles x h'
      · exact colB m c t 2048 _ x _ _ h'0 (by show 3592 + (y 1).val = _; omega)
      · exact colB m c t 1536 _ x _ _ h'0 (by show 3592 + (y 1).val = _; omega)
  · blk_ext [idx t, sq, tok, Cert.InProjRefIdeal.InP.row]

theorem fin18 (c : Dev nD) : (dats m 0 c).arrAt 18 (cfgs 0).N = R18 m c := by
  refine (dats m 0 c).arrAt_eq_of_covers 18 _ (by decide +kernel) fun t _ y => ?_
  blk_simp
  rw [after0_18]
  refine Eq.trans (b := pr m c t (y 0) ⟨4616 + (y 1).val, by have h : (y 1).val < 1024 := (y 1).isLt; omega⟩) ?_ ((Cert.InProjRefIdeal.InP.gb_at (A0 m c) (A1 m c) (A2 m c) (sq t) (tok t (y 0)) (y 1)).symm.trans ?_)
  · by_cases h : t.val % 8 = 0
    · rw [outsAt0_A m c t h]; dsimp only; frame_out
      canon_tiles x h'
      · exact colB m c t 3072 _ x _ _ h'0 (by show 4616 + (y 1).val = _; omega)
      · exact colB m c t 2560 _ x _ _ h'0 (by show 4616 + (y 1).val = _; omega)
    · rw [outsAt0_B m c t h]; dsimp only; frame_out
      canon_tiles x h'
      · exact colB m c t 3072 _ x _ _ h'0 (by show 4616 + (y 1).val = _; omega)
      · exact colB m c t 2560 _ x _ _ h'0 (by show 4616 + (y 1).val = _; omega)
  · blk_ext [idx t, sq, tok, Cert.InProjRefIdeal.InP.row]

theorem fin16 (c : Dev nD) : (dats m 0 c).arrAt 16 (cfgs 0).N = R16 m c := by
  refine (dats m 0 c).arrAt_eq_of_covers 16 _ (by decide +kernel) fun t _ y => ?_
  blk_simp
  rw [after0_16]
  refine Eq.trans (b := pr m c t (y 2) ⟨3080 + (y 1).val, by have h : (y 1).val < 512 := (y 1).isLt; omega⟩) ?_ ((Cert.InProjRefIdeal.InP.v_at (A0 m c) (A1 m c) (A2 m c) (sq t) (tok t (y 2)) (y 1)).symm.trans ?_)
  · by_cases h : t.val % 8 = 0
    · rw [outsAt0_A m c t h]; dsimp only; frame_out
      exact colV m c t 1024 _ y _ rfl
    · rw [outsAt0_B m c t h]; dsimp only; frame_out
      exact colV m c t 1024 _ y _ rfl
  · blk_ext [idx t, sq, tok]

theorem fin19 (c : Dev nD) : (dats m 0 c).arrAt 19 (cfgs 0).N = R19 m c := by
  refine (dats m 0 c).arrAt_eq_of_covers 19 _ (by decide +kernel) fun t _ y => ?_
  blk_simp
  rw [after0_19]
  refine Eq.trans (b := if h : (y 1).val < 8 then pr m c t (y 0) ⟨2048 + (y 1).val, by omega⟩ else (0 : EReal)) ?_ ((Cert.InProjRefIdeal.InP.lg_at (A0 m c) (A1 m c) (A2 m c) (sq t) (tok t (y 0)) (y 1)).symm.trans ?_)
  · by_cases h : t.val % 8 = 0
    · rw [outsAt0_A m c t h]; dsimp only; frame_out
      exact colL m c t y
    · rw [outsAt0_B m c t h]; dsimp only; frame_out
      exact colL m c t y
  · blk_ext [idx t, sq, tok, Cert.InProjRefIdeal.InP.row]

end Cert.InProjIdeal.Value
end
-- ==== Proof.InPConv.lean ====
module

public import proofs.«01_k».proof.Proof.InPMul

/-! The input projection's kernel: the convolution's buffer it leaves. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

theorem pay8_at (v : FVec Ideal S8x1536 .f32) (y : S1x3x1536.Idx) : k0_pay8 (F := Ideal) v y = v (ix2 ⟨5 + (y 1).val, by have h : (y 1).val < 3 := (y 1).isLt; omega⟩ (y 2)) := by
  idx_vars y
  pointwise [k0_pay8, k0_pay7]

set_option maxHeartbeats 4000000 in
theorem fin20 (c : Dev nD) : (dats m 0 c).arrAt 20 (cfgs 0).N = R20 m c := by
  refine (dats m 0 c).arrAt_eq_of_covers 20 _ (by decide +kernel) fun t hf y => ?_
  have h7 : t.val % 8 = 7 := by revert hf; revert t; decide +kernel
  blk_simp
  rw [after0_20]
  refine Eq.trans (b := pr m c t ⟨509 + (y 1).val, by have h : (y 1).val < 3 := (y 1).isLt; omega⟩ ⟨(y 2).val, by have h : (y 2).val < 1536 := (y 2).isLt; omega⟩) ?_ (Eq.trans ?_ ((Cert.InProjRefIdeal.InP.conv_at (A0 m c) (A1 m c) (A2 m c) (sq t) (y 1) (y 2)).symm.trans ?_))
  · rw [outsAt0_B m c t (by omega)]; dsimp only; frame_out
    refine (pay8_at _ y).trans ?_
    rw [View.readCov_eq_canon_ld _ _ _ (View.cover_of_tiledBy _ ![512, 512] (by sl_kernel_rfl))]
    refine Eq.trans (b := View.canon _ _) rfl ?_
    generalize hz : (Rect.unit _ _ _).idx _ = z
    have z0 : (z 0).val = 509 + (y 1).val := by rw [← hz]; show 504 + 1 * (5 + (y 1).val) = _; omega
    have z1 : (z 1).val = (y 2).val := by rw [← hz]; show 0 + 1 * (y 2).val = _; omega
    clear hz
    canon_tiles x h' using (View.cover_of_tiledBy _ ![512, 512] (by sl_kernel_rfl) _)
    · exact colA m c t 1024 _ x _ _ (by dsimp only; omega) (by dsimp only; omega)
    · exact colA m c t 512 _ x _ _ (by dsimp only; omega) (by dsimp only; omega)
    · exact colA m c t 0 _ x _ _ (by dsimp only; omega) (by dsimp only; omega)
  · refine congrArg (fun s => Cert.InProjRefIdeal.InP.pre (A0 m c) (A1 m c) (A2 m c) (sq t) s _) (Fin.ext ?_)
    show t.val % 8 * 512 + (509 + (y 1).val) = 4093 + (y 1).val
    omega
  · blk_ext [idx t, sq, tok]

end Cert.InProjIdeal.Value
end
-- ==== Proof.InPRope.lean ====
module

public import proofs.«01_k».proof.Proof.InPMul

/-! The rotation of the queries' and keys' heads, as the kernel computes it and as the reference does. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

/-- the rotated entry in row `j` and column `r`: of each head's 64 rows the first eight pairs with the next eight, the others stay -/
def rope (yT : FVec Ideal S512x512 .f32) (cT sT : FVec Ideal S8x512 .f32) (j r : Fin 512) : EReal :=
  if h1 : j.val % 64 < 8 then yT (ix2 j r) * cT (ix2 ⟨j.val % 64, h1⟩ r) - yT (ix2 ⟨j.val + 8, by omega⟩ r) * sT (ix2 ⟨j.val % 64, h1⟩ r)
  else if h2 : j.val % 64 < 16 then yT (ix2 j r) * cT (ix2 ⟨j.val % 64 - 8, by omega⟩ r) + yT (ix2 ⟨j.val - 8, by omega⟩ r) * sT (ix2 ⟨j.val % 64 - 8, by omega⟩ r)
  else yT (ix2 j r)

section
variable (yT : FVec Ideal S512x512 .f32) (cT sT : FVec Ideal S8x512 .f32) (i i' j r r' : Fin 512) (d : Fin 8)
theorem rope_lo (ei : i.val = j.val) (ei' : i'.val = j.val + 8) (ed : j.val % 64 = d.val) (er : r'.val = r.val) :
    yT (ix2 i r') * cT (ix2 d r') - yT (ix2 i' r') * sT (ix2 d r') = rope yT cT sT j r := by
  obtain rfl : i = j := Fin.ext ei
  obtain rfl : r' = r := Fin.ext er
  have hd : i.val % 64 < 8 := by omega
  unfold rope
  rw [dif_pos hd, show (⟨i.val % 64, hd⟩ : Fin 8) = d from Fin.ext ed, show (⟨i.val + 8, by omega⟩ : Fin 512) = i' from Fin.ext ei'.symm]
theorem rope_hi (ei : i.val = j.val) (ei' : i'.val + 8 = j.val) (ed : j.val % 64 = 8 + d.val) (er : r'.val = r.val) :
    yT (ix2 i r') * cT (ix2 d r') + yT (ix2 i' r') * sT (ix2 d r') = rope yT cT sT j r := by
  obtain rfl : i = j := Fin.ext ei
  obtain rfl : r' = r := Fin.ext er
  have hd : ¬ i.val % 64 < 8 := by omega
  have hd2 : i.val % 64 < 16 := by omega
  unfold rope
  rw [dif_neg hd, dif_pos hd2, show (⟨i.val % 64 - 8, by omega⟩ : Fin 8) = d from Fin.ext (by show i.val % 64 - 8 = d.val; omega), show (⟨i.val - 8, by omega⟩ : Fin 512) = i' from Fin.ext (by show i.val - 8 = i'.val; omega)]
theorem rope_rest (ei : i.val = j.val) (ed : 16 ≤ j.val % 64) (er : r'.val = r.val) : yT (ix2 i r') = rope yT cT sT j r := by
  obtain rfl : i = j := Fin.ext ei
  obtain rfl : r' = r := Fin.ext er
  unfold rope
  rw [dif_neg (by omega), dif_neg (by omega)]
end

/-- where the products are the projection's columns of head `o` on, the kernel's rotation is the reference's -/
theorem rope_ref (c : Dev nD) (t : Fin cfg0.N) (yT : FVec Ideal S512x512 .f32) (cT sT : FVec Ideal S8x512 .f32) (o : ℕ) (ho : o ≤ 8) (r : Fin 512)
    (ey : ∀ i : Fin 512, yT (ix2 i r) = pr m c t r ⟨2056 + o * 64 + i.val, by omega⟩)
    (ec : ∀ d, cT (ix2 d r) = Ideal.cos (Cert.InProjRefIdeal.InP.ang (tok t r) d)) (es : ∀ d, sT (ix2 d r) = Ideal.sin (Cert.InProjRefIdeal.InP.ang (tok t r) d)) (j : Fin 512) :
    rope yT cT sT j r = Cert.InProjRefIdeal.Read.val_main_v56 (F := Ideal) (A0 m c) (A1 m c) (A2 m c) (ix4 (sq t) (tok t r) ⟨o + j.val / 64, by omega⟩ ⟨j.val % 64, by omega⟩) := by
  unfold rope
  by_cases h1 : j.val % 64 < 8
  · rw [dif_pos h1, ey, ey, ec, es]
    refine Eq.trans ?_ (Cert.InProjRefIdeal.InP.rope0_at (A0 m c) (A1 m c) (A2 m c) (sq t) (tok t r) ⟨o + j.val / 64, by omega⟩ ⟨j.val % 64, h1⟩).symm
    exact congrArg₂ (fun a b => pr m c t r a * Ideal.cos (Cert.InProjRefIdeal.InP.ang (tok t r) ⟨j.val % 64, h1⟩) - pr m c t r b * Ideal.sin (Cert.InProjRefIdeal.InP.ang (tok t r) ⟨j.val % 64, h1⟩))
      (Fin.ext (by show 2056 + o * 64 + j.val = 2056 + (o + j.val / 64) * 64 + j.val % 64; omega)) (Fin.ext (by show 2056 + o * 64 + (j.val + 8) = 2056 + (o + j.val / 64) * 64 + (8 + j.val % 64); omega))
  · rw [dif_neg h1]
    by_cases h2 : j.val % 64 < 16
    · rw [dif_pos h2, ey, ey, ec, es]
      refine Eq.trans ?_ ((Cert.InProjRefIdeal.InP.rope1_at (A0 m c) (A1 m c) (A2 m c) (sq t) (tok t r) ⟨o + j.val / 64, by omega⟩ ⟨j.val % 64 - 8, by omega⟩).symm.trans ?_)
      · exact congrArg₂ (fun a b => pr m c t r a * Ideal.cos (Cert.InProjRefIdeal.InP.ang (tok t r) ⟨j.val % 64 - 8, by omega⟩) + pr m c t r b * Ideal.sin (Cert.InProjRefIdeal.InP.ang (tok t r) ⟨j.val % 64 - 8, by omega⟩))
          (Fin.ext (by show 2056 + o * 64 + j.val = 2056 + (o + j.val / 64) * 64 + (8 + (j.val % 64 - 8)); omega)) (Fin.ext (by show 2056 + o * 64 + (j.val - 8) = 2056 + (o + j.val / 64) * 64 + (j.val % 64 - 8); omega))
      · exact congrArg (fun d => Cert.InProjRefIdeal.Read.val_main_v56 (F := Ideal) (A0 m c) (A1 m c) (A2 m c) (ix4 (sq t) (tok t r) ⟨o + j.val / 64, by omega⟩ d)) (Fin.ext (by show 8 + (j.val % 64 - 8) = j.val % 64; omega))
    · rw [dif_neg h2, ey]
      refine Eq.trans ?_ ((Cert.InProjRefIdeal.InP.rope2_at (A0 m c) (A1 m c) (A2 m c) (sq t) (tok t r) ⟨o + j.val / 64, by omega⟩ ⟨j.val % 64 - 16, by omega⟩).symm.trans ?_)
      · exact congrArg (pr m c t r) (Fin.ext (by show 2056 + o * 64 + j.val = 2056 + (o + j.val / 64) * 64 + (16 + (j.val % 64 - 16)); omega))
      · exact congrArg (fun d => Cert.InProjRefIdeal.Read.val_main_v56 (F := Ideal) (A0 m c) (A1 m c) (A2 m c) (ix4 (sq t) (tok t r) ⟨o + j.val / 64, by omega⟩ d)) (Fin.ext (by show 16 + (j.val % 64 - 16) = j.val % 64; omega))

theorem cosT_at (c : Dev nD) (t : Fin cfg0.N) (d : Fin 8) (r : Fin 512) : k0_pay282 (F := Ideal) (iblk m c 9 t) (ix2 d r) = Ideal.cos (Cert.InProjRefIdeal.InP.ang (tok t r) d) := by
  refine Eq.trans ?_ (cos_at m c t d r)
  pointwise [k0_pay282]
theorem sinT_at (c : Dev nD) (t : Fin cfg0.N) (d : Fin 8) (r : Fin 512) : k0_pay283 (F := Ideal) (iblk m c 10 t) (ix2 d r) = Ideal.sin (Cert.InProjRefIdeal.InP.ang (tok t r) d) := by
  refine Eq.trans ?_ (sin_at m c t d r)
  pointwise [k0_pay283]

end Cert.InProjIdeal.Value
end
-- ==== Proof.InPQ.lean ====
module

public import proofs.«01_k».proof.Proof.InPRope

/-! The input projection's kernel: the array of the rotated queries. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

theorem in14 : ∀ a, (![0, 0] : Fin 2 → ℕ) a + (![512, 1024] : Fin 2 → ℕ) a ≤ S1536x1024.size a := by decide
/-- the queries before the rotation, transposed, and the rotation's tables, as the kernel holds them -/
def y14 (c : Dev nD) (t : Fin cfg0.N) : FVec Ideal S512x512 .f32 := k0_pay284 (F := Ideal) (k0_pay2 (iblk m c 0 t) (iblk m c 1 t)) (View.ld (iblk m c 8 t) (Rect.unit ![0, 0] ![512, 1024] in14))
def c14 (c : Dev nD) (t : Fin cfg0.N) : FVec Ideal S8x512 .f32 := k0_pay282 (F := Ideal) (iblk m c 9 t)
def s14 (c : Dev nD) (t : Fin cfg0.N) : FVec Ideal S8x512 .f32 := k0_pay283 (F := Ideal) (iblk m c 10 t)
theorem ref14 (c : Dev nD) (t : Fin cfg0.N) (j r : Fin 512) : rope (y14 m c t) (c14 m c t) (s14 m c t) j r = R14 m c (ix3 (sq t) j (tok t r)) := by
  refine (rope_ref m c t _ _ _ 0 (by omega) r (fun i => colT m c t 0 in14 i r _ rfl) (fun d => cosT_at m c t d r) (fun d => sinT_at m c t d r) j).trans ?_
  refine Eq.trans ?_ ((Cert.InProjRefIdeal.InP.q_at (A0 m c) (A1 m c) (A2 m c) (sq t) (tok t r) ⟨j.val / 64, by omega⟩ ⟨j.val % 64, by omega⟩).symm.trans ?_)
  · refine congrArg (fun h => Cert.InProjRefIdeal.Read.val_main_v56 (F := Ideal) (A0 m c) (A1 m c) (A2 m c) (ix4 (sq t) (tok t r) h ⟨j.val % 64, by omega⟩)) (Fin.ext ?_)
    dsimp only <;> omega
  · exact congrArg (fun j => R14 m c (ix3 (sq t) j (tok t r))) (Fin.ext (by show j.val / 64 * 64 + j.val % 64 = j.val; omega))

set_option maxHeartbeats 4000000 in
theorem fin14 (c : Dev nD) : (dats m 0 c).arrAt 14 (cfgs 0).N = R14 m c := by
  refine (dats m 0 c).arrAt_eq_of_covers 14 _ (by decide +kernel) fun t _ y => ?_
  blk_simp
  rw [after0_14]
  refine Eq.trans (b := rope (y14 m c t) (c14 m c t) (s14 m c t) (y 1) (y 2)) ?_ ((ref14 m c t (y 1) (y 2)).trans ?_)
  · by_cases h : t.val % 8 = 0
    on_goal 1 => rw [outsAt0_A m c t h]
    on_goal 2 => rw [outsAt0_B m c t h]
    all_goals
      dsimp only; frame_out
      unfold k0_pay287 k0_pay286 k0_pay285 y14 c14 s14
      generalize k0_pay284 (F := Ideal) _ _ = yT
      generalize k0_pay282 (F := Ideal) _ = cT
      generalize k0_pay283 (F := Ideal) _ = sT
      canon_tiles x h' using (View.cover_of_tiledBy _ ![1, 8, 512] (by sl_kernel_rfl) _)
      all_goals
        open_payloads
        pointwise []
        first
          | (refine rope_rest _ _ _ _ _ _ _ ?_ ?_ ?_ <;> (try dsimp only) <;> omega)
          | (refine rope_lo _ _ _ _ _ _ _ _ _ ?_ ?_ ?_ ?_ <;> (try dsimp only) <;> omega)
          | (refine rope_hi _ _ _ _ _ _ _ _ _ ?_ ?_ ?_ ?_ <;> (try dsimp only) <;> omega)
  · blk_ext [idx t, sq, tok]

end Cert.InProjIdeal.Value
end
-- ==== Proof.InPK.lean ====
module

public import proofs.«01_k».proof.Proof.InPRope

/-! The input projection's kernel: the array of the rotated keys. -/

@[expose] public section
set_option maxRecDepth 16384

noncomputable section
open Idealize.ShloMosaic Idealize.ShloMosaic.TcCoe Idealize.SL.Sem
open Idealize.ShloMosaic.Pipeline (Dat)
open scoped BigOperators

namespace Cert.InProjIdeal.Value
open Cert.InProjIdeal Cert.InProjIdeal.Gen

variable (m : (ℓ : Loc nD τ sig) → Buf (Elt Ideal) ℓ)

theorem in15 : ∀ a, (![512, 0] : Fin 2 → ℕ) a + (![512, 1024] : Fin 2 → ℕ) a ≤ S1536x1024.size a := by decide
/-- the keys before the rotation, transposed, and the rotation's tables, as the kernel holds them -/
def y15 (c : Dev nD) (t : Fin cfg0.N) : FVec Ideal S512x512 .f32 := k0_pay331 (F := Ideal) (k0_pay2 (iblk m c 0 t) (iblk m c 1 t)) (View.ld (iblk m c 8 t) (Rect.unit ![512, 0] ![512, 1024] in15))
def c15 (c : Dev nD) (t : Fin cfg0.N) : FVec Ideal S8x512 .f32 := k0_pay329 (F := Ideal) (iblk m c 9 t)
def s15 (c : Dev nD) (t : Fin cfg0.N) : FVec Ideal S8x512 .f32 := k0_pay330 (F := Ideal) (iblk m c 10 t)
theorem ref15 (c : Dev nD) (t : Fin cfg0.N) (j r : Fin 512) : rope (y15 m c t) (c15 m c t) (s15 m c t) j r = R15 m c (ix3 (sq t) j (tok t r)) := by
  refine (rope_ref m c t _ _ _ 8 (by omega) r (fun i => colT m c t 512 in15 i r _ rfl) (fun d => cosT_at m c t d r) (fun d => sinT_at m c t d r) j).trans ?_
  refine Eq.trans ?_ ((Cert.InProjRefIdeal.InP.k_at (A0 m c) (A1 m c) (A2 m c) (sq t) (tok t r) ⟨j.val / 64, by omega⟩ ⟨j.val % 64, by omega⟩).symm.trans ?_)
  · refine congrArg (fun h => Cert.InProjRefIdeal.Read.val_main_v56 (F := Ideal) (A0 m c) (A1 m c) (A2 m c) (ix4 (sq t) (tok t r) h ⟨j.val % 64, by omega⟩)) (Fin.ext ?_)
    dsimp only <;> omega
  · exact congrArg (fun j => R15 m c (ix3 (sq t) j (tok t r))) (Fin.ext (by show j.val / 64 * 64 + j.val % 64 = j.val; omega))

set_option maxHeartbeats 4000000 in
theorem fin15 (c : Dev nD) : (dats m 0 c).arrAt 15 (cfgs 0).N = R15 m c := by
  refine (dats m 0 c).arrAt_eq_of_covers 15 _ (by decide +kernel) fun t _ y => ?_
  blk_simp
  rw [after0_15]
  refine Eq.trans (b := rope (y15 m c t) (c15 m c t) (s15 m c t) (y 1) (y 2)) ?_ ((ref15 m c t (y 1) (y 2)).trans ?_)
  · by_cases h : t.val % 8 = 0
    on_goal 1 => rw [outsAt0_A m c t h]
    on_goal 2 => rw [outsAt0_B m c t h]
    all_goals
      dsimp only; frame_out
      unfold k0_pay341 k0_pay340 k0_pay339 k0_pay336 k0_pay335 k0_pay334 k0_pay338 k0_pay337 k0_pay333 k0_pay332 y15 c15 s15
      generalize k0_pay331 (F := Ideal) _ _ = yT
      generalize k0_pay329 (F := Ideal) _ = cT
      generalize k0_pay330 (F := Ideal) _ = sT
      canon_tiles x h' using (View.cover_of_tiledBy _ ![1, 8, 512] (by sl_kernel_rfl) _)
      all_goals
        open_payloads
        pointwise []
        first
          | (refine rope_rest _ _ _ _ _ _ _ ?_ ?_ ?_ <;> (try dsimp only) <;> omega)
          | (refine rope_lo _ _ _ _ _ _ _ _ _ ?_ ?_ ?_ ?_ <;> (try dsimp only) <;> omega)
          | (refine rope_hi _ _ _ _ _ _ _ _ _ ?_ ?_ ?_ ?_ <;> (try dsimp only) <;> omega)
  · blk_ext [idx t, sq, tok]

end Cert.InProjIdeal.Value
end
-- ==== Proof.InPClaim.lean ====
module

public import proofs.«01_k».proof.Defs
public import proofs.«01_k».proof.Proof.Gen.InProjRefIdeal.Run
public import proofs.«01_k».proof.Proof.InPOut
public import proofs.«01_k».proof.Proof.InPConv
public import proofs.«01_k».proof.Proof.InPQ
public import proofs.«01_k».proof.Proof.InPK
public import Idealize.ShloMosaic.Lib.Claim

/-! The input projection's claims. -/

@[expose] public section
set_option maxRecDepth 16384

open Idealize.ShloMosaic Idealize.ShloMosaic.TcCoe Idealize.SL.Sem

namespace Cert.Proof.InP

theorem frameRef : Cert.quiescent_InProjRefIdeal := by
  intro m g _
  run_from Cert.InProjRefIdeal.Value.run m g
  · simp only [and_self, implies_true]
  · refine sem_eq_zero_of_no_sems ?_ _
    rfl

set_option maxHeartbeats 4000000 in
open Cert.InProjIdeal.Value in
/-- the kernel's run leaves the reference's arrays of its arguments -/
theorem kernelRun (m : (ℓ : Loc Cert.InProjIdeal.nD Cert.InProjIdeal.τ Cert.InProjIdeal.sig) → Buf (Elt Ideal) ℓ) (g : Dev Cert.InProjIdeal.nD → PrngReg) :
    θ_run (Cert.InProjIdeal.defs (F := Ideal)) (onTc (τ := Cert.InProjIdeal.τ) (Cert.InProjIdeal.main (F := Ideal))) ⟨m, fun _ => 0, g⟩ (fun r => ∀ c : Dev Cert.InProjIdeal.nD,
      r.2.mem ((c.tc : Thread Cert.InProjIdeal.nD Cert.InProjIdeal.τ).loc Cert.InProjIdeal.main_v54_1) = R13 m c
      ∧ r.2.mem ((c.tc : Thread Cert.InProjIdeal.nD Cert.InProjIdeal.τ).loc Cert.InProjIdeal.main_v54_2) = R14 m c
      ∧ r.2.mem ((c.tc : Thread Cert.InProjIdeal.nD Cert.InProjIdeal.τ).loc Cert.InProjIdeal.main_v54_3) = R15 m c
      ∧ r.2.mem ((c.tc : Thread Cert.InProjIdeal.nD Cert.InProjIdeal.τ).loc Cert.InProjIdeal.main_v54_4) = R16 m c
      ∧ r.2.mem ((c.tc : Thread Cert.InProjIdeal.nD Cert.InProjIdeal.τ).loc Cert.InProjIdeal.main_v54_5) = R17 m c
      ∧ r.2.mem ((c.tc : Thread Cert.InProjIdeal.nD Cert.InProjIdeal.τ).loc Cert.InProjIdeal.main_v54_6) = R18 m c
      ∧ r.2.mem ((c.tc : Thread Cert.InProjIdeal.nD Cert.InProjIdeal.τ).loc Cert.InProjIdeal.main_v54_7) = R19 m c
      ∧ r.2.mem ((c.tc : Thread Cert.InProjIdeal.nD Cert.InProjIdeal.τ).loc Cert.InProjIdeal.main_v54_8) = R20 m c
      ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)) := by
  refine θ_run_mono (θ_run_and (Cert.InProjIdeal.Gen.run_main m g) (Cert.InProjIdeal.Gen.unchanged m g)) ?_
  rintro r ⟨h1, h2⟩ c
  refine ⟨?_, ?_, ?_, ?_, ?_, ?_, ?_, ?_, h2 c⟩
  · have e := (h1 c).1 13
    exact e.trans (fin13 m c)
  · have e := (h1 c).1 14
    exact e.trans (fin14 m c)
  · have e := (h1 c).1 15
    exact e.trans (fin15 m c)
  · have e := (h1 c).1 16
    exact e.trans (fin16 m c)
  · have e := (h1 c).1 17
    exact e.trans (fin17 m c)
  · have e := (h1 c).1 18
    exact e.trans (fin18 m c)
  · have e := (h1 c).1 19
    exact e.trans (fin19 m c)
  · have e := (h1 c).1 20
    exact e.trans (fin20 m c)

set_option maxHeartbeats 4000000 in
open Cert.InProjIdeal.Value in
/-- the reference's run, its results named by their stages -/
theorem refRun (m' : (ℓ : Loc Cert.InProjRefIdeal.nD Cert.InProjRefIdeal.τ Cert.InProjRefIdeal.sig) → Buf (Elt Ideal) ℓ) (g' : Dev Cert.InProjRefIdeal.nD → PrngReg) :
    θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
      r.2.mem ((c.tc : Thread Cert.InProjRefIdeal.nD Cert.InProjRefIdeal.τ).loc Cert.InProjRefIdeal.main_v60) = Cert.InProjRefIdeal.Read.val_main_v60 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v62) = Cert.InProjRefIdeal.Read.val_main_v62 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v64) = Cert.InProjRefIdeal.Read.val_main_v64 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v65) = Cert.InProjRefIdeal.Read.val_main_v65 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v66) = Cert.InProjRefIdeal.Read.val_main_v66 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v67) = Cert.InProjRefIdeal.Read.val_main_v67 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v68) = Cert.InProjRefIdeal.Read.val_main_v68 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_v25) = Cert.InProjRefIdeal.Read.val_main_v25 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
      ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)) := by
  refine θ_run_mono (Cert.InProjRefIdeal.Value.run m' g') ?_
  intro r hr c
  obtain ⟨e13, e14, e15, e16, e17, e18, e19, e20, ha⟩ := hr c
  refine ⟨?_, ?_, ?_, ?_, ?_, ?_, ?_, ?_, ha⟩
  · exact e13.trans (Cert.InProjRefIdeal.Read.val_main_v60_eq _ _ _)
  · exact e14.trans (Cert.InProjRefIdeal.Read.val_main_v62_eq _ _)
  · exact e15.trans (Cert.InProjRefIdeal.Read.val_main_v64_eq _ _)
  · exact e16.trans (Cert.InProjRefIdeal.Read.val_main_v65_eq _ _ _)
  · exact e17.trans (Cert.InProjRefIdeal.Read.val_main_v66_eq _ _ _)
  · exact e18.trans (Cert.InProjRefIdeal.Read.val_main_v67_eq _ _ _)
  · exact e19.trans (Cert.InProjRefIdeal.Read.val_main_v68_eq _ _ _)
  · exact e20.trans (Cert.InProjRefIdeal.Read.val_main_v25_eq _ _ _)

theorem congr3 {α β γ δ : Sort*} (f : α → β → γ → δ) {a a' : α} {b b' : β} {d d' : γ} (ha : a = a') (hb : b = b') (hd : d = d') : f a b d = f a' b' d' := by
  rw [ha, hb, hd]

set_option maxHeartbeats 4000000 in
open Cert.InProjIdeal.Value in
theorem algebraic : Cert.algebraic_InProjIdeal_InProjRefIdeal := by
  intro m g m' g' hpre hagree
  refine ⟨fun c => R13 m c, fun c => R14 m c, fun c => R15 m c, fun c => R16 m c, fun c => R17 m c, fun c => R18 m c, fun c => R19 m c, fun c => R20 m c, kernelRun m g, ?_⟩
  refine θ_run_mono (refRun m' g') ?_
  intro r hr c
  obtain ⟨h0, h1, h2, h3⟩ := hagree c
  obtain ⟨e13, e14, e15, e16, e17, e18, e19, e20, ha⟩ := hr c
  refine ⟨?_, ?_, ?_, ?_, ?_, ?_, ?_, ?_, ha⟩
  · exact e13.trans (congr3 (Cert.InProjRefIdeal.Read.val_main_v60 (F := Ideal)) h0 h1 h2)
  · exact e14.trans (congr3 (Cert.InProjRefIdeal.Read.val_main_v62 (F := Ideal)) h0 h1 h2)
  · exact e15.trans (congr3 (Cert.InProjRefIdeal.Read.val_main_v64 (F := Ideal)) h0 h1 h2)
  · exact e16.trans (congr3 (Cert.InProjRefIdeal.Read.val_main_v65 (F := Ideal)) h0 h1 h2)
  · exact e17.trans (congr3 (Cert.InProjRefIdeal.Read.val_main_v66 (F := Ideal)) h0 h1 h2)
  · exact e18.trans (congr3 (Cert.InProjRefIdeal.Read.val_main_v67 (F := Ideal)) h0 h1 h2)
  · exact e19.trans (congr3 (Cert.InProjRefIdeal.Read.val_main_v68 (F := Ideal)) h0 h1 h2)
  · exact e20.trans (congr3 (Cert.InProjRefIdeal.Read.val_main_v25 (F := Ideal)) h0 h1 h2)

end Cert.Proof.InP
end
-- ==== Proof.lean ====
module

public import proofs.«01_k».proof.Defs
public import proofs.«01_k».proof.Proof.Gen.MergeMlp.Frame
public import proofs.«01_k».proof.Proof.Gen.MergeMlpIdeal.Frame
public import proofs.«01_k».proof.Proof.Gen.MergeMlpIdeal.Value
public import proofs.«01_k».proof.Proof.Gen.MergeMlpRefIdeal.Run
public import proofs.«01_k».proof.Proof.Gen.MergeMlpRefIdeal.Read
public import proofs.«01_k».proof.Proof.Gen.MergeMlpS.Frame
public import proofs.«01_k».proof.Proof.Gen.MergeMlpSIdeal.Frame
public import proofs.«01_k».proof.Proof.Gen.MergeMlpSIdeal.Value
public import proofs.«01_k».proof.Proof.Gen.MergeMlpSRefIdeal.Run
public import proofs.«01_k».proof.Proof.Gen.MergeMlpSRefIdeal.Read
public import proofs.«01_k».proof.Proof.Gen.DeltaStep.Frame
public import proofs.«01_k».proof.Proof.Gen.DeltaStepIdeal.Frame
public import proofs.«01_k».proof.Proof.Gen.DeltaStepIdeal.Value
public import proofs.«01_k».proof.Proof.Gen.DeltaStepRefIdeal.Run
public import proofs.«01_k».proof.Proof.Gen.DeltaStepRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.MlpClaim
public import proofs.«01_k».proof.Proof.MlpSClaim
public import proofs.«01_k».proof.Proof.DeltaClaim
public import proofs.«01_k».proof.Proof.InPClaim

@[expose] public section

theorem Cert.Proof.claim : Cert.Claim :=
  ⟨Cert.MergeMlp.Gen.facts, Cert.MergeMlpIdeal.Gen.facts, Cert.MergeMlpRefIdeal.Gen.facts,
    Cert.MergeMlpS.Gen.facts, Cert.MergeMlpSIdeal.Gen.facts, Cert.MergeMlpSRefIdeal.Gen.facts,
    Cert.DeltaStep.Gen.facts, Cert.DeltaStepIdeal.Gen.facts, Cert.DeltaStepRefIdeal.Gen.facts,
    Cert.InProj.Gen.facts, Cert.InProjIdeal.Gen.facts, Cert.InProjRefIdeal.Gen.facts,
    fun m ρ _ => Cert.MergeMlp.Gen.frame m ρ, fun m ρ _ => Cert.MergeMlpIdeal.Gen.frame m ρ, Cert.Proof.Mlp.frameRef,
    fun m ρ _ => Cert.MergeMlpS.Gen.frame m ρ, fun m ρ _ => Cert.MergeMlpSIdeal.Gen.frame m ρ, Cert.Proof.MlpS.frameRef,
    fun m ρ _ => Cert.DeltaStep.Gen.frame m ρ, fun m ρ _ => Cert.DeltaStepIdeal.Gen.frame m ρ, Cert.Proof.Delta.frameRef,
    fun m ρ _ => Cert.InProj.Gen.frame m ρ, fun m ρ _ => Cert.InProjIdeal.Gen.frame m ρ, Cert.Proof.InP.frameRef,
    trivial, Cert.Proof.Mlp.algebraic,
    trivial, Cert.Proof.MlpS.algebraic,
    trivial, Cert.Proof.Delta.algebraic,
    trivial, Cert.Proof.InP.algebraic⟩

end
